-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S352x512 : Shape := ⟨2, ![352, 512]⟩
abbrev S11 : Shape := ⟨1, ![11]⟩
abbrev S5 : Shape := ⟨1, ![5]⟩
abbrev S1x32x512 : Shape := ⟨3, ![1, 32, 512]⟩
abbrev S32x512 : Shape := ⟨2, ![32, 512]⟩
abbrev S_ : Shape := ⟨0, ![]⟩
abbrev S1 : Shape := ⟨1, ![1]⟩
abbrev S32 : Shape := ⟨1, ![32]⟩
abbrev S32x1 : Shape := ⟨2, ![32, 1]⟩
abbrev S1x512 : Shape := ⟨2, ![1, 512]⟩

abbrev nBuf : Space → Nat
  | .hbm => 4
  | .vmem => 6
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .hbm, ⟨2, _⟩ => ⟨S512, .bf16⟩
  | .hbm, ⟨3, _⟩ => ⟨S512x512, .bf16⟩
  | .local _ .vmem, ⟨0, _⟩ => ⟨S1x512x512, .bf16⟩
  | .local _ .vmem, ⟨1, _⟩ => ⟨S512x512, .bf16⟩
  | .local _ .vmem, ⟨2, _⟩ => ⟨S512, .bf16⟩
  | .local _ .vmem, ⟨3, _⟩ => ⟨S512x512, .bf16⟩
  | .local _ .vmem, ⟨4, _⟩ => ⟨S352x512, .bf16⟩
  | .local _ .vmem, ⟨5, _⟩ => ⟨S352x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c352_i32 : BitVec 32 := 352#32
  let v8 : BitVec 32 := Scalar.muli v5 c352_i32
  let v11 : BitVec 32 := Scalar.addi v8 c0_i32
  let v12 : Index := Scalar.indexCast v11
  let c0_6 : Index := 0#32
  ![0, v12.toNat, 0]
def k0_dev1 (d0 : Dev nD) : Nat :=
  let c0_i32_47 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_46 : BitVec 32 := 2#32
  let v77 : BitVec 32 := Scalar.muli v6 c2_i32_46
  let v78 : BitVec 32 := Scalar.addi c0_i32_47 v77
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_48 : BitVec 32 := 1#32
  let v79 : BitVec 32 := Scalar.muli v5 c1_i32_48
  let v80 : BitVec 32 := Scalar.addi v78 v79
  v80.toNat
def k0_dev2 (d0 : Dev nD) : Nat :=
  let c0_i32_51 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_50 : BitVec 32 := 2#32
  let v81 : BitVec 32 := Scalar.muli v2 c2_i32_50
  let v82 : BitVec 32 := Scalar.addi c0_i32_51 v81
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_52 : BitVec 32 := 1#32
  let v83 : BitVec 32 := Scalar.muli v7 c1_i32_52
  let v84 : BitVec 32 := Scalar.addi v82 v83
  v84.toNat
def k0_dev3 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v85 : BitVec 32 := Scalar.muli v6 c2_i32_56
  let v86 : BitVec 32 := Scalar.addi c0_i32_57 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v87 : BitVec 32 := Scalar.muli v5 c1_i32_58
  let v88 : BitVec 32 := Scalar.addi v86 v87
  v88.toNat
def k0_dev4 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v95 : BitVec 32 := Scalar.muli v6 c2_i32_65
  let v96 : BitVec 32 := Scalar.addi c0_i32_66 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v97 : BitVec 32 := Scalar.muli v5 c1_i32_67
  let v98 : BitVec 32 := Scalar.addi v96 v97
  v98.toNat
def k0_dev5 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v105 : BitVec 32 := Scalar.muli v6 c2_i32_74
  let v106 : BitVec 32 := Scalar.addi c0_i32_75 v105
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v107 : BitVec 32 := Scalar.muli v5 c1_i32_76
  let v108 : BitVec 32 := Scalar.addi v106 v107
  v108.toNat
def k0_dev6 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v115 : BitVec 32 := Scalar.muli v6 c2_i32_82
  let v116 : BitVec 32 := Scalar.addi c0_i32_83 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v117 : BitVec 32 := Scalar.muli v5 c1_i32_84
  let v118 : BitVec 32 := Scalar.addi v116 v117
  v118.toNat
def k0_dev7 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v125 : BitVec 32 := Scalar.muli v6 c2_i32_90
  let v126 : BitVec 32 := Scalar.addi c0_i32_91 v125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v127 : BitVec 32 := Scalar.muli v5 c1_i32_92
  let v128 : BitVec 32 := Scalar.addi v126 v127
  v128.toNat
def k0_dev8 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v135 : BitVec 32 := Scalar.muli v6 c2_i32_98
  let v136 : BitVec 32 := Scalar.addi c0_i32_99 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v137 : BitVec 32 := Scalar.muli v5 c1_i32_100
  let v138 : BitVec 32 := Scalar.addi v136 v137
  v138.toNat
def k0_dev9 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v145 : BitVec 32 := Scalar.muli v6 c2_i32_105
  let v146 : BitVec 32 := Scalar.addi c0_i32_106 v145
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v147 : BitVec 32 := Scalar.muli v5 c1_i32_107
  let v148 : BitVec 32 := Scalar.addi v146 v147
  v148.toNat
def k0_dev10 (d0 : Dev nD) : Nat :=
  let c0_i32_113 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_112 : BitVec 32 := 2#32
  let v155 : BitVec 32 := Scalar.muli v6 c2_i32_112
  let v156 : BitVec 32 := Scalar.addi c0_i32_113 v155
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_114 : BitVec 32 := 1#32
  let v157 : BitVec 32 := Scalar.muli v5 c1_i32_114
  let v158 : BitVec 32 := Scalar.addi v156 v157
  v158.toNat
def k0_dev11 (d0 : Dev nD) : Nat :=
  let c0_i32_120 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_119 : BitVec 32 := 2#32
  let v165 : BitVec 32 := Scalar.muli v6 c2_i32_119
  let v166 : BitVec 32 := Scalar.addi c0_i32_120 v165
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v167 : BitVec 32 := Scalar.muli v5 c1_i32_121
  let v168 : BitVec 32 := Scalar.addi v166 v167
  v168.toNat
def k0_dev12 (d0 : Dev nD) : Nat :=
  let c0_i32_127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_126 : BitVec 32 := 2#32
  let v175 : BitVec 32 := Scalar.muli v6 c2_i32_126
  let v176 : BitVec 32 := Scalar.addi c0_i32_127 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v177 : BitVec 32 := Scalar.muli v5 c1_i32_128
  let v178 : BitVec 32 := Scalar.addi v176 v177
  v178.toNat
def k0_dev13 (d0 : Dev nD) : Nat :=
  let c0_i32_134 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_133 : BitVec 32 := 2#32
  let v185 : BitVec 32 := Scalar.muli v6 c2_i32_133
  let v186 : BitVec 32 := Scalar.addi c0_i32_134 v185
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_135 : BitVec 32 := 1#32
  let v187 : BitVec 32 := Scalar.muli v5 c1_i32_135
  let v188 : BitVec 32 := Scalar.addi v186 v187
  v188.toNat
def k0_off2 (d0 : Dev nD) (c0_i32_148 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c352_i32 : BitVec 32 := 352#32
  let v8 : BitVec 32 := Scalar.muli v5 c352_i32
  let v203 : BitVec 32 := Scalar.addi v8 c0_i32_148
  let v209 : Index := Scalar.indexCast v203
  let c0_153 : Index := 0#32
  ![v209.toNat, 0]
def k0_off3 (d0 : Dev nD) (c0_i32_158 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c352_i32 : BitVec 32 := 352#32
  let v8 : BitVec 32 := Scalar.muli v5 c352_i32
  let v233 : BitVec 32 := Scalar.addi v8 c0_i32_158
  let c0_i32_164 : BitVec 32 := 0#32
  ![v233.toNat, 0]
def k0_dev14 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v234 : BitVec 32 := Scalar.muli v2 c2_i32_161
  let v235 : BitVec 32 := Scalar.addi c0_i32_162 v234
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_163 : BitVec 32 := 1#32
  let v236 : BitVec 32 := Scalar.muli v7 c1_i32_163
  let v237 : BitVec 32 := Scalar.addi v235 v236
  v237.toNat
def k0_dev15 (d0 : Dev nD) : Nat :=
  let c0_i32_190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_189 : BitVec 32 := 2#32
  let v283 : BitVec 32 := Scalar.muli v2 c2_i32_189
  let v284 : BitVec 32 := Scalar.addi c0_i32_190 v283
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_191 : BitVec 32 := 1#32
  let v285 : BitVec 32 := Scalar.muli v7 c1_i32_191
  let v286 : BitVec 32 := Scalar.addi v284 v285
  v286.toNat
def k0_dev16 (d0 : Dev nD) : Nat :=
  let c0_i32_218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_217 : BitVec 32 := 2#32
  let v332 : BitVec 32 := Scalar.muli v2 c2_i32_217
  let v333 : BitVec 32 := Scalar.addi c0_i32_218 v332
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_219 : BitVec 32 := 1#32
  let v334 : BitVec 32 := Scalar.muli v7 c1_i32_219
  let v335 : BitVec 32 := Scalar.addi v333 v334
  v335.toNat
def k0_dev17 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v381 : BitVec 32 := Scalar.muli v2 c2_i32_245
  let v382 : BitVec 32 := Scalar.addi c0_i32_246 v381
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_247 : BitVec 32 := 1#32
  let v383 : BitVec 32 := Scalar.muli v7 c1_i32_247
  let v384 : BitVec 32 := Scalar.addi v382 v383
  v384.toNat
def k0_dev18 (d0 : Dev nD) : Nat :=
  let c0_i32_274 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_273 : BitVec 32 := 2#32
  let v430 : BitVec 32 := Scalar.muli v2 c2_i32_273
  let v431 : BitVec 32 := Scalar.addi c0_i32_274 v430
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_275 : BitVec 32 := 1#32
  let v432 : BitVec 32 := Scalar.muli v7 c1_i32_275
  let v433 : BitVec 32 := Scalar.addi v431 v432
  v433.toNat
def k0_off4 (d0 : Dev nD) (c0_i32_404 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c352_i32_5 : BitVec 32 := 352#32
  let v10 : BitVec 32 := Scalar.muli v9 c352_i32_5
  let v650 : BitVec 32 := Scalar.addi v10 c0_i32_404
  let c0_i32_410 : BitVec 32 := 0#32
  ![v650.toNat, 0]
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 26
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x512, .bf16⟩
  | .hbm, ⟨2, _⟩ => ⟨S512, .bf16⟩
  | .hbm, ⟨3, _⟩ => ⟨S2x512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1, .f32⟩
  | .hbm, ⟨19, _⟩ => ⟨S512x512, .f32⟩
  | .hbm, ⟨20, _⟩ => ⟨S512x512, .f32⟩
  | .hbm, ⟨21, _⟩ => ⟨S512, .f32⟩
  | .hbm, ⟨22, _⟩ => ⟨S1x512, .f32⟩
  | .hbm, ⟨23, _⟩ => ⟨S512x512, .f32⟩
  | .hbm, ⟨24, _⟩ => ⟨S512x512, .f32⟩
  | .hbm, ⟨25, _⟩ => ⟨S512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Steps.lean ====
/-
# The kernel's body as loops over its blocks of rows

The kernel is written out with every loop unrolled. Here it is written again as loops over the numbers of
the 32-row blocks: one step per kind of work (staging a block, sending it, computing a block, waiting for
a transfer), each step stated at the number of its block. `body_eq` says that the kernel's body is these
loops, so that each kind of step needs one proof.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Fused

open Cert.KernelIdeal Cert.KernelIdeal.Gen

open Idealize.ShloMosaic
open Idealize.ShloMosaic.TcCoe
open Idealize.SL Idealize.SL.Sem

variable {F : FTy → Type} [FloatOps F]

/-- A program of one core's instructions. -/
abbrev Code (F : FTy → Type) [FloatOps F] : Type 1 := Prog (TpuEff nD τ sig (Elt F) Λ₀ .tc) PUnit

/-! ## The buffers -/

/-- The operand `p`'s block, -/
abbrev pM : Memref sig .tc .vmem S1x512x512 .bf16 := Memref.whole cc0_stg0_0
/-- the residual, -/
abbrev rM : Memref sig .tc .vmem S512x512 .bf16 := Memref.whole cc0_stg1_0
/-- the scale, -/
abbrev gM : Memref sig .tc .vmem S512 .bf16 := Memref.whole cc0_stg2_0
/-- the result, -/
abbrev oM : Memref sig .tc .vmem S512x512 .bf16 := Memref.whole cc0_stg3_0
/-- the buffer sent to the neighbour along `x`, -/
abbrev sM : Memref sig .tc .vmem S352x512 .bf16 := Memref.whole cc0_scratch0
/-- the buffer the neighbour along `x` writes. -/
abbrev vM : Memref sig .tc .vmem S352x512 .bf16 := Memref.whole cc0_scratch1

/-! ## The neighbours -/

/-- The neighbour along `x`. -/
def xn (c : Dev nD) : Dev nD := ⟨k0_dev1 c, k0_dev1_lt c⟩
/-- The neighbour along `y`. -/
def yn (c : Dev nD) : Dev nD := ⟨k0_dev2 c, k0_dev2_lt c⟩

theorem xn_xn (c : Dev nD) : xn (xn c) = c := by revert c; decide
theorem yn_yn (c : Dev nD) : yn (yn c) = c := by revert c; decide

/-! ## The rectangles of the blocks -/

/-- The block of the exchange buffers that holds block `k` of a device's own rows by `y`; -/
def lowK (k : Fin 5) : Fin 11 := ⟨k.val, by omega⟩
/-- the block that holds block `k` of the rows both devices compute. -/
def midK (k : Fin 6) : Fin 11 := ⟨5 + k.val, by omega⟩

theorem inbA (k : Fin 11) : ∀ a, (![32 * k.val, 0] : Fin 2 → Nat) a + S32x512.size a ≤ S352x512.size a := by
  revert k; decide
theorem inbMid (k : Fin 6) : ∀ a, (![160 + 32 * k.val, 0] : Fin 2 → Nat) a + S32x512.size a ≤ S512x512.size a := by
  revert k; decide
theorem inbMidP (k : Fin 6) : ∀ a, (![0, 160 + 32 * k.val, 0] : Fin 3 → Nat) a + S1x32x512.size a ≤ S1x512x512.size a := by
  revert k; decide
theorem inb11 (k : Fin 11) : ∀ a, (![k.val] : Fin 1 → Nat) a + S1.size a ≤ S11.size a := by revert k; decide
theorem inb5 (k : Fin 5) : ∀ a, (![k.val] : Fin 1 → Nat) a + S1.size a ≤ S5.size a := by revert k; decide

/-- Block `k` of an exchange buffer. -/
abbrev recA (k : Fin 11) : Rect S352x512 := Rect.unit (s := S352x512) ![32 * k.val, 0] S32x512.size (inbA k)
/-- Block `k` of the rows `c` computes by its `y`, in the result and the residual, -/
abbrev recB (c : Dev nD) (k : Fin 5) : Rect S512x512 :=
  Rect.unit (s := S512x512) (k0_off2 c (BitVec.ofNat 32 (32 * k.val))) S32x512.size (k0_off2_inb c k)
/-- as the transfers name it, -/
abbrev recS (c : Dev nD) (k : Fin 5) : Rect S512x512 :=
  Rect.unit (s := S512x512) (k0_off3 c (BitVec.ofNat 32 (32 * k.val))) S32x512.size (k0_off3_inb c k)
/-- and in the operand. -/
abbrev recBP (c : Dev nD) (k : Fin 5) : Rect S1x512x512 :=
  Rect.unit (s := S1x512x512) (k0_off1 c (BitVec.ofNat 32 (32 * k.val))) S1x32x512.size (k0_off1_inb c k)
/-- Block `k` of the rows the neighbour along `y` computes by its `y`. -/
abbrev recN (c : Dev nD) (k : Fin 5) : Rect S512x512 :=
  Rect.unit (s := S512x512) (k0_off4 c (BitVec.ofNat 32 (32 * k.val))) S32x512.size (k0_off4_inb c k)
/-- Block `k` of the rows both compute, in the result and the residual, -/
abbrev recM (k : Fin 6) : Rect S512x512 := Rect.unit (s := S512x512) ![160 + 32 * k.val, 0] S32x512.size (inbMid k)
/-- and in the operand. -/
abbrev recMP (k : Fin 6) : Rect S1x512x512 := Rect.unit (s := S1x512x512) ![0, 160 + 32 * k.val, 0] S1x32x512.size (inbMidP k)
/-- The whole scale. -/
abbrev recG : Rect S512 := Rect.unit (s := S512) ![0] S512.size inb_S512_S512_0

theorem packA (k : Fin 11) : (recA k).PackedRows (EltTy.packing .bf16) := by revert k; decide
theorem packM (k : Fin 6) : (recM k).PackedRows (EltTy.packing .bf16) := by revert k; decide
theorem wordsA (k : Fin 11) : (recA k).WholeWords (EltTy.packing .bf16) := by revert k; decide

abbrev sSlice (k : Fin 11) : Memref sig .tc .vmem S32x512 .bf16 := sM.slice (recA k) (fun _ => rfl)
abbrev vSlice (k : Fin 11) : Memref sig .tc .vmem S32x512 .bf16 := vM.slice (recA k) (fun _ => rfl)
abbrev oSlice (c : Dev nD) (k : Fin 5) : Memref sig .tc .vmem S32x512 .bf16 := oM.slice (recS c k) (fun _ => rfl)
abbrev nSlice (c : Dev nD) (k : Fin 5) : Memref sig .tc .vmem S32x512 .bf16 := oM.slice (recN c k) (fun _ => rfl)

theorem sExact (k : Fin 11) : (sSlice k).view.WordExact := (Memref.isWhole_whole cc0_scratch0).wordExact_slice rfl _ (wordsA k)
theorem vExact (k : Fin 11) : (vSlice k).view.WordExact := (Memref.isWhole_whole cc0_scratch1).wordExact_slice rfl _ (wordsA k)
theorem oExact (c : Dev nD) (k : Fin 5) : (oSlice c k).view.WordExact :=
  (Memref.isWhole_whole cc0_stg3_0).wordExact_slice rfl _ (k0_off3_wordsbf16 c k)
theorem nExact (c : Dev nD) (k : Fin 5) : (nSlice c k).view.WordExact :=
  (Memref.isWhole_whole cc0_stg3_0).wordExact_slice rfl _ (k0_off4_wordsbf16 c k)

/-! ## The semaphores -/

/-- The barrier's semaphore. -/
abbrev barS : Sem sig := (SemArray.scalar (sig.barrier 0 rfl) : Sems sig S_).sem
/-- The transfer along `x` of block `k`: at its source, -/
abbrev sendA (k : Fin 11) : DmaSem sig := ((cc0_scratch2.slice (Rect.unit (s := S11) ![k.val] S1.size (inb11 k))).squeeze S_ squeezes_S1_S_).sem
/-- and at its destination. -/
abbrev recvA (k : Fin 11) : DmaSem sig := ((cc0_scratch3.slice (Rect.unit (s := S11) ![k.val] S1.size (inb11 k))).squeeze S_ squeezes_S1_S_).sem
/-- The transfer along `y` of block `k`: at its source, -/
abbrev sendB (k : Fin 5) : DmaSem sig := ((cc0_scratch4.slice (Rect.unit (s := S5) ![k.val] S1.size (inb5 k))).squeeze S_ squeezes_S1_S_).sem
/-- and at its destination. -/
abbrev recvB (k : Fin 5) : DmaSem sig := ((cc0_scratch5.slice (Rect.unit (s := S5) ![k.val] S1.size (inb5 k))).squeeze S_ squeezes_S1_S_).sem

/-! ## The steps -/

/-- A block of the operand as the exchange buffer takes it. -/
def stageVal (v : Vec F S1x32x512 .bf16) : Vec F S32x512 .bf16 := k0_pay1 v

/-- A computed block: from the device's own rows of the operand, its neighbour's, the residual's and the scale. -/
def blockVal (s v r : Vec F S32x512 .bf16) (g : Vec F S512 .bf16) : Vec F S32x512 .bf16 := k0_pay13 (k0_pay12 s) v r g

/-- Staging block `k` from the rows of the operand at `off`. -/
def stage (off : Fin 3 → ℕ) (inb : ∀ a, off a + S1x32x512.size a ≤ S1x512x512.size a) (k : Fin 11) (rest : Code F) : Code F :=
  .op (.load pM (Rect.unit (s := S1x512x512) off S1x32x512.size inb).toLoadRect (View.loadsAt_vmem h_S1x32x512)) fun v =>
  .op (.load sM (recA k).toLoadRect (View.loadsAt_vmem h_S32x512)) fun _ =>
  .op (.store sM (recA k) (stageVal v) Finset.univ
    (View.stores_vmem h_S32x512 ((Memref.isWhole_whole cc0_scratch0).storeExact_slice rfl _ (packA k)) (fun _ => rfl)) (.inl rfl)) fun _ =>
  rest

/-- The transfer along `x` of block `k`. -/
def shipA (c : Dev nD) (k : Fin 11) (rest : Code F) : Code F :=
  .op (.enqueueDma (sSlice k) (.remote (Dev.tc (xn c)) (vSlice k) (.dma (sendA k))) (.dma (recvA k)) (sExact k) (vExact k)
    ⟨⟨rfl, Or.inl rfl⟩, trivial⟩) fun _ => rest

/-- The transfer along `y` of block `k`. -/
def shipB (c : Dev nD) (k : Fin 5) (rest : Code F) : Code F :=
  .op (.enqueueDma (oSlice c k) (.remote (Dev.tc (yn c)) (oSlice c k) (.dma (sendB k))) (.dma (recvB k)) (oExact c k) (oExact c k)
    ⟨⟨rfl, Or.inl rfl⟩, trivial⟩) fun _ => rest

/-- Waiting for block `k` of the neighbour along `x`. -/
def takeA (k : Fin 11) (rest : Code F) : Code F :=
  .op (.waitDma2 (recvA k) (sSlice k) (vSlice k) (sExact k) (vExact k)) fun _ => rest

/-- Computing a block: from block `k` of the exchange buffers, into the rows of the result at `off`. -/
def compute (k : Fin 11) (off : Fin 2 → ℕ) (inb : ∀ a, off a + S32x512.size a ≤ S512x512.size a)
    (hp : (Rect.unit (s := S512x512) off S32x512.size inb).PackedRows (EltTy.packing .bf16)) (rest : Code F) : Code F :=
  .op (.load sM (recA k).toLoadRect (View.loadsAt_vmem h_S32x512)) fun s =>
  .op (.load vM (recA k).toLoadRect (View.loadsAt_vmem h_S32x512)) fun v =>
  .op (.load rM (Rect.unit (s := S512x512) off S32x512.size inb).toLoadRect (View.loadsAt_vmem h_S32x512)) fun r =>
  .op (.load gM recG.toLoadRect (View.loadsAt_vmem h_S512)) fun g =>
  .op (.load oM (Rect.unit (s := S512x512) off S32x512.size inb).toLoadRect (View.loadsAt_vmem h_S32x512)) fun _ =>
  .op (.store oM (Rect.unit (s := S512x512) off S32x512.size inb) (blockVal s v r g) Finset.univ
    (View.stores_vmem h_S32x512 ((Memref.isWhole_whole cc0_stg3_0).storeExact_slice rfl _ hp) (fun _ => rfl)) (.inl rfl)) fun _ =>
  rest

/-- Staging block `k` of the device's own rows, -/
def stageB (c : Dev nD) (k : Fin 5) (rest : Code F) : Code F :=
  stage (k0_off1 c (BitVec.ofNat 32 (32 * k.val))) (k0_off1_inb c k) (lowK k) rest
/-- and of the rows both compute. -/
def stageM (k : Fin 6) (rest : Code F) : Code F :=
  stage ![0, 160 + 32 * k.val, 0] (inbMidP k) (midK k) rest

/-- Block `k` of the device's own rows: waited for, computed and sent on along `y`; -/
def workB (c : Dev nD) (k : Fin 5) (rest : Code F) : Code F :=
  takeA (lowK k) (compute (lowK k) (k0_off2 c (BitVec.ofNat 32 (32 * k.val))) (k0_off2_inb c k) (k0_off2_packedbf16 c k) (shipB c k rest))
/-- block `k` of the rows both compute: waited for and computed. -/
def workM (k : Fin 6) (rest : Code F) : Code F :=
  takeA (midK k) (compute (midK k) ![160 + 32 * k.val, 0] (inbMid k) (packM k) rest)

/-- Waiting for the neighbour along `y`'s block `k`, -/
def takeB (c : Dev nD) (k : Fin 5) (rest : Code F) : Code F :=
  .op (.waitDma2 (recvB k) (nSlice c k) (nSlice c k) (nExact c k) (nExact c k)) fun _ => rest
/-- for the transfer along `x` of block `k` to have left, -/
def leftA (k : Fin 11) (rest : Code F) : Code F :=
  .op (.waitDma2 (sendA k) (vSlice k) (sSlice k) (vExact k) (sExact k)) fun _ => rest
/-- and the transfer along `y`. -/
def leftB (c : Dev nD) (k : Fin 5) (rest : Code F) : Code F :=
  .op (.waitDma2 (sendB k) (oSlice c k) (oSlice c k) (oExact c k) (oExact c k)) fun _ => rest

/-- The handshake with both neighbours. -/
def shake (c : Dev nD) (rest : Code F) : Code F :=
  .op (.semSignal (Dev.tc (xn c)) barS 1) fun _ =>
  .op (.semSignal (Dev.tc (yn c)) barS 1) fun _ =>
  .op (.semWait barS 2) fun _ => rest

/-! ## The body -/

abbrev all5 : List (Fin 5) := [0, 1, 2, 3, 4]
abbrev all6 : List (Fin 6) := [0, 1, 2, 3, 4, 5]
abbrev all11 : List (Fin 11) := [0, 1, 2, 3, 4, 5, 6, 7, 8, 9, 10]

/-- One step for each number of a list, in order. -/
def each {ι : Type} (step : ι → Code F → Code F) : List ι → Code F → Code F
  | [], rest => rest
  | k :: l, rest => step k (each step l rest)

/-- The body on device `c`. -/
def loops (c : Dev nD) : Code F :=
  each (stageB c) all5 <| each stageM all6 <| shake c <| each (shipA c) all11 <| each (workB c) all5 <| each workM all6 <|
    each (takeB c) all5 <| each leftA all11 <| each (leftB c) all5 <| .ret ⟨⟩

set_option maxRecDepth 65536 in
/-- The kernel's body is these loops, at the device it runs on. -/
theorem body_eq : cc0_body (F := F) pM (Memref.isWhole_whole _) rM (Memref.isWhole_whole _) gM (Memref.isWhole_whole _) oM (Memref.isWhole_whole _)
    sM (Memref.isWhole_whole _) vM (Memref.isWhole_whole _) cc0_scratch2 cc0_scratch3 cc0_scratch4 cc0_scratch5
      = .op .deviceId fun c => loops c := rfl

end Cert.Fused

end
-- ==== Proof.Protocol.lean ====
/-
# The protocol between the devices

Device `c` deals with its neighbour along `x`, `xn c`, and its neighbour along `y`, `yn c`.

* Barrier: `c` waits for one unit of each neighbour. The unit of `xn c` brings `xn c`'s receive buffer,
  block by block; the unit of `yn c` brings the rows of `yn c`'s result that `c` computes for it.
* Transfer along `x` of block `k`, to `xn c`: the source keeps half of its share of the block and gets the
  other half back when the transfer has left; the destination gets the block with the sender's rows.
* Transfer along `y` of block `k`, to `yn c`: the computed rows, given back at the source when they have
  left; the destination gets its own rows, holding what the sender computed.

Every semaphore has one round. The barrier is at level 1, the arrivals along `x` at level 2, the arrivals
along `y` at level 3, everything else at level 0: a device waits only below what it still owes.
-/
module

public import proofs.«01_k».proof.Proof.Steps
public import Idealize.ShloMosaic.Lib.ValueIdxCore

@[expose] public section

noncomputable section

namespace Cert.Fused

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the kernel's own semaphores, duties named by a Boolean. -/
abbrev UB : Type := URounds (GSem nD τ sig) Bool
/-- The staging's ghost state beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero. -/
def s₀ : MemSt nD τ sig (Elt F) := ⟨m, fun _ => 0, ρ⟩

abbrev 𝒱₀ : Variants := Variants.none

/-! ## Rows -/

/-- The elements of block `k` of an exchange buffer. -/
def rowsA (k : Fin 11) : Finset S352x512.Idx := Finset.univ.filter fun i => 32 * k.val ≤ (i 0).val ∧ (i 0).val < 32 * k.val + 32
/-- The elements of the 32 rows of the result from row `a` on. -/
def rowsO (a : ℕ) : Finset S512x512.Idx := Finset.univ.filter fun i => a ≤ (i 0).val ∧ (i 0).val < a + 32

theorem mem_rowsA {k : Fin 11} {i : S352x512.Idx} : i ∈ rowsA k ↔ 32 * k.val ≤ (i 0).val ∧ (i 0).val < 32 * k.val + 32 := by
  unfold rowsA; rw [Finset.mem_filter]; exact and_iff_right (Finset.mem_univ _)
theorem mem_rowsO {a : ℕ} {i : S512x512.Idx} : i ∈ rowsO a ↔ a ≤ (i 0).val ∧ (i 0).val < a + 32 := by
  unfold rowsO; rw [Finset.mem_filter]; exact and_iff_right (Finset.mem_univ _)

/-- The first row of block `k` of the rows `c` computes by its `y`, -/
def ownRow (c : Dev nD) (k : Fin 5) : ℕ := 352 * (c.val % 2) + 32 * k.val
/-- of those its neighbour along `y` computes, -/
def theirRow (c : Dev nD) (k : Fin 5) : ℕ := (32 * k.val + 352) - 352 * (c.val % 2)
/-- and of those both compute. -/
def midRow (k : Fin 6) : ℕ := 160 + 32 * k.val

theorem theirRow_yn (c : Dev nD) (k : Fin 5) : theirRow (yn c) k = ownRow c k := by revert c k; decide
theorem ownRow_yn (c : Dev nD) (k : Fin 5) : ownRow (yn c) k = theirRow c k := by revert c k; decide

theorem unit_rows (off : Fin 2 → ℕ) (inb : ∀ a, off a + S32x512.size a ≤ S512x512.size a) (h1 : off 1 = 0) :
    (Rect.unit (s := S512x512) off S32x512.size inb).set = rowsO (off 0) := by
  ext i
  rw [Rect.mem_set_unit, mem_rowsO]
  constructor
  · intro h; exact h 0
  · intro h a
    match a with
    | 0 => exact h
    | 1 => exact ⟨h1 ▸ Nat.zero_le _, by rw [h1]; exact lt_of_lt_of_eq (i 1).isLt rfl⟩

theorem recA_set (k : Fin 11) : (recA k).set = rowsA k := by
  ext i
  rw [Rect.mem_set_unit, mem_rowsA]
  constructor
  · intro h; exact h 0
  · intro h a
    match a with
    | 0 => exact h
    | 1 => exact ⟨Nat.zero_le _, lt_of_lt_of_eq (i 1).isLt rfl⟩

theorem recB_set (c : Dev nD) (k : Fin 5) : (recB c k).set = rowsO (ownRow c k) := by
  have h := k0_off2_eq c k
  rw [unit_rows _ _ (by rw [h]; rfl), h]; rfl
theorem recS_set (c : Dev nD) (k : Fin 5) : (recS c k).set = rowsO (ownRow c k) := by
  have h := k0_off3_eq c k
  rw [unit_rows _ _ (by rw [h]; rfl), h]; rfl
theorem recN_set (c : Dev nD) (k : Fin 5) : (recN c k).set = rowsO (theirRow c k) := by
  have h := k0_off4_eq c k
  rw [unit_rows _ _ (by rw [h]; rfl), h]; rfl
theorem recM_set (k : Fin 6) : (recM k).set = rowsO (midRow k) := by
  rw [unit_rows _ _ rfl]; rfl

theorem sSlice_set (k : Fin 11) : (sSlice k).view.set = rowsA k := (View.set_slice_whole _ _).trans (recA_set k)
theorem vSlice_set (k : Fin 11) : (vSlice k).view.set = rowsA k := (View.set_slice_whole _ _).trans (recA_set k)
theorem oSlice_set (c : Dev nD) (k : Fin 5) : (oSlice c k).view.set = rowsO (ownRow c k) := (View.set_slice_whole _ _).trans (recS_set c k)
theorem nSlice_set (c : Dev nD) (k : Fin 5) : (nSlice c k).view.set = rowsO (theirRow c k) := (View.set_slice_whole _ _).trans (recN_set c k)

/-! ## Contents -/

/-- The staged operand of device `c`, -/
def pStg (c : Dev nD) : (cc0_stg0_0 : Ref sig .tc).ty.Contents (Elt F) :=
  (win0_0.blk (0 : Fin 1)).view.read (Elt F) ((s₀ m ρ).mem ((c : Thread nD τ).loc main_arg0))
/-- its staged residual -/
def rStg (c : Dev nD) : (cc0_stg1_0 : Ref sig .tc).ty.Contents (Elt F) :=
  (win0_1.blk (0 : Fin 1)).view.read (Elt F) ((s₀ m ρ).mem ((c : Thread nD τ).loc main_arg1))
/-- and its staged scale. -/
def gStg (c : Dev nD) : (cc0_stg2_0 : Ref sig .tc).ty.Contents (Elt F) :=
  (win0_2.blk (0 : Fin 1)).view.read (Elt F) ((s₀ m ρ).mem ((c : Thread nD τ).loc main_arg2))

/-- The row of the operand that row `i` of device `c`'s exchange buffer holds. -/
def srcRow (c : Dev nD) (i : ℕ) : ℕ := if i < 160 then 352 * (c.val % 2) + i else i
theorem srcRow_lt (c : Dev nD) {i : ℕ} (h : i < 352) : srcRow c i < 512 := by
  unfold srcRow; have : c.val % 2 < 2 := Nat.mod_lt _ (by decide); split <;> omega

/-- The exchange buffer of device `c` once staged. -/
def sbuf (c : Dev nD) : (cc0_scratch0 : Ref sig .tc).ty.Contents (Elt F) := fun (i : S352x512.Idx) =>
  pStg m ρ c (ix3 (n0 := 1) (n1 := 512) (n2 := 512) 0 ⟨srcRow c (i 0).val, srcRow_lt c (i 0).isLt⟩ (i 1))
/-- The receive buffer of device `c` once filled. -/
def vbuf (c : Dev nD) : (cc0_scratch1 : Ref sig .tc).ty.Contents (Elt F) := sbuf m ρ (xn c)

/-- Block `k` of device `c`'s exchange buffer, -/
def sendBlk (c : Dev nD) (k : Fin 11) : Vec F S32x512 .bf16 := sM.view.readAt (Elt F) (recA k).toLoadRect (sbuf m ρ c)
/-- and the rows of its residual to the same place. -/
def resBlk (c : Dev nD) (k : Fin 11) : Vec F S32x512 .bf16 := fun (i : S32x512.Idx) =>
  rStg m ρ c (ix2 (n0 := 512) (n1 := 512) ⟨srcRow c (32 * k.val + (i 0).val), srcRow_lt c (by have : (i 0).val < 32 := (i 0).isLt; have := k.isLt; omega)⟩ (i 1))
/-- What device `c` computes at block `k`. -/
def outBlk (c : Dev nD) (k : Fin 11) : Vec F S32x512 .bf16 :=
  blockVal (sendBlk m ρ c k) (sendBlk m ρ (xn c) k) (resBlk m ρ c k) (gStg m ρ c)

/-- The device whose computation ends up in row `i` of device `c`'s result: the first rows come from the device with
    `y = 0`, the last rows from the one with `y = 1`, those between are `c`'s own. -/
def owner (c : Dev nD) (i : ℕ) : Dev nD :=
  if i < 160 then (if c.val % 2 = 0 then c else yn c) else if 352 ≤ i then (if c.val % 2 = 0 then yn c else c) else c
/-- The block that holds row `i` there. -/
def blkOf (i : ℕ) (h : i < 512) : Fin 11 := ⟨i % 352 / 32, by have := Nat.mod_lt i (show 352 > 0 by decide); omega⟩

/-- The result of device `c`. -/
def obuf (c : Dev nD) : (cc0_stg3_0 : Ref sig .tc).ty.Contents (Elt F) := fun (i : S512x512.Idx) =>
  outBlk m ρ (owner c (i 0).val) (blkOf (i 0).val (i 0).isLt) (ix2 (n0 := 32) (n1 := 512) ⟨(i 0).val % 32, Nat.mod_lt _ (by decide)⟩ (i 1))

/-! ## The pieces that change hands -/

/-- A share of block `k` of `c`'s exchange buffer, -/
def sPts (c : Dev nD) (k : Fin 11) (q : PosShare TreeShare) (f : (cc0_scratch0 : Ref sig .tc).ty.Contents (Elt F)) : sProp 𝕄 :=
  ((c : Thread nD τ).loc cc0_scratch0) ↦[rowsA k]{q} f
/-- block `k` of its receive buffer, -/
def vPts (c : Dev nD) (k : Fin 11) (f : (cc0_scratch1 : Ref sig .tc).ty.Contents (Elt F)) : sProp 𝕄 :=
  ((c : Thread nD τ).loc cc0_scratch1) ↦[rowsA k]{fullShare} f
/-- the 32 rows of its result from row `a` on. -/
def oPts (c : Dev nD) (a : ℕ) (f : (cc0_stg3_0 : Ref sig .tc).ty.Contents (Elt F)) : sProp 𝕄 :=
  ((c : Thread nD τ).loc cc0_stg3_0) ↦[rowsO a]{fullShare} f

omit [FloatOps F] in
instance sPts_storable (c : Dev nD) (k q f) : BI.Storable (upEmb : UEmb _ 𝕄) (sPts (F := F) c k q f) := by unfold sPts; infer_instance
omit [FloatOps F] in
instance vPts_storable (c : Dev nD) (k f) : BI.Storable (upEmb : UEmb _ 𝕄) (vPts (F := F) c k f) := by unfold vPts; infer_instance
omit [FloatOps F] in
instance oPts_storable (c : Dev nD) (a f) : BI.Storable (upEmb : UEmb _ 𝕄) (oPts (F := F) c a f) := by unfold oPts; infer_instance

/-! ## The cells -/

/-- The kernel's own semaphores: leaving and arriving along `x`, leaving and arriving along `y`. -/
abbrev Own : Type := Fin 11 ⊕ Fin 11 ⊕ Fin 5 ⊕ Fin 5
/-- With the barrier's. -/
abbrev Cell : Type := Unit ⊕ Own

def osem : Own → SemLoc sig
  | .inl k => .dma (sendA k)
  | .inr (.inl k) => .dma (recvA k)
  | .inr (.inr (.inl k)) => .dma (sendB k)
  | .inr (.inr (.inr k)) => .dma (recvB k)
def csem : Cell → SemLoc sig
  | .inl _ => .reg barS
  | .inr o => osem o

abbrev bar : Cell := .inl ()
abbrev sa (k : Fin 11) : Cell := .inr (.inl k)
abbrev ra (k : Fin 11) : Cell := .inr (.inr (.inl k))
abbrev sb (k : Fin 5) : Cell := .inr (.inr (.inr (.inl k)))
abbrev rb (k : Fin 5) : Cell := .inr (.inr (.inr (.inr k)))

def kcell (cq : Dev nD × Cell) : GSem nD τ sig := ((cq.1 : Thread nD τ), csem cq.2)

/-- The cell a semaphore is, if it is one of the protocol's: read off its number. -/
def kind : SemLoc sig → Option Cell
  | .reg _ => some bar
  | .dma q =>
    if h : q.val < 4 then none
    else if h : q.val - 4 < 11 then some (sa ⟨q.val - 4, h⟩)
    else if h : q.val - 15 < 11 then some (ra ⟨q.val - 15, h⟩)
    else if h : q.val - 26 < 5 then some (sb ⟨q.val - 26, h⟩)
    else if h : q.val - 31 < 5 then some (rb ⟨q.val - 31, h⟩)
    else none

theorem kind_sendA (k : Fin 11) : kind (.dma (sendA k)) = some (sa k) := by revert k; decide
theorem kind_recvA (k : Fin 11) : kind (.dma (recvA k)) = some (ra k) := by revert k; decide
theorem kind_sendB (k : Fin 5) : kind (.dma (sendB k)) = some (sb k) := by revert k; decide
theorem kind_recvB (k : Fin 5) : kind (.dma (recvB k)) = some (rb k) := by revert k; decide
theorem kind_csem (q : Cell) : kind (csem q) = some q := by
  match q with
  | .inl _ => rfl
  | .inr (.inl k) => exact kind_sendA k
  | .inr (.inr (.inl k)) => exact kind_recvA k
  | .inr (.inr (.inr (.inl k))) => exact kind_sendB k
  | .inr (.inr (.inr (.inr k))) => exact kind_recvB k

/-- The credit of one block's transfer. -/
abbrev N : ℕ := (sSlice 0).view.dmaCredit
theorem N_pos : 0 < N := View.dmaCredit_pos _ (by decide)

/-! ## The schedule -/

/-- What a duty of device `c`'s cell hands over. -/
def pay (c : Dev nD) : Cell → Bool → sProp 𝕄
  | .inl _, false => bigSep Finset.univ fun k => iprop(∃ f, vPts (xn c) k f)
  | .inl _, true => bigSep Finset.univ fun k => iprop(∃ f, oPts (yn c) (ownRow c k) f)
  | .inr (.inl k), _ => sPts c k fullShare.right (sbuf m ρ c)
  | .inr (.inr (.inl k)), _ => vPts c k (vbuf m ρ c)
  | .inr (.inr (.inr (.inl k))), _ => oPts c (ownRow c k) (obuf m ρ c)
  | .inr (.inr (.inr (.inr k))), _ => oPts c (theirRow c k) (obuf m ρ c)

instance pay_storable (c : Dev nD) (q : Cell) (d : Bool) : BI.Storable (upEmb : UEmb _ 𝕄) (pay m ρ c q d) := by
  match q, d with
  | .inl _, false => unfold pay; infer_instance
  | .inl _, true => unfold pay; infer_instance
  | .inr (.inl k), _ => unfold pay; infer_instance
  | .inr (.inr (.inl k)), _ => unfold pay; infer_instance
  | .inr (.inr (.inr (.inl k))), _ => unfold pay; infer_instance
  | .inr (.inr (.inr (.inr k))), _ => unfold pay; infer_instance

/-- The duties of a cell: two at the barrier, one at a transfer's semaphore. -/
def duts : Cell → Finset Bool
  | .inl _ => Finset.univ
  | .inr _ => {false}
/-- The units one duty pays. -/
def amt : Cell → ℕ
  | .inl _ => 1
  | .inr _ => N
theorem amt_pos (q : Cell) : 0 < amt q := by
  match q with
  | .inl _ => exact Nat.one_pos
  | .inr _ => exact N_pos

/-- One round: what each cell's duties pay and hand over. -/
def Rd : Rounds.Schedule (GSem nD τ sig) Bool 𝕄 where
  duties g r := if r = 0 ∧ g.1.2 = .tc then ((kind g.2).map duts).getD ∅ else ∅
  unitless _ := False
  amount g _ _ := ((kind g.2).map amt).getD 1
  payload g _ d := ((kind g.2).map fun q => pay m ρ g.1.1 q d).getD iprop(emp)
  amount_pos g _ _ _ := by
    cases kind g.2 with
    | none => exact Nat.one_pos
    | some q => exact amt_pos q

instance Rd_payload_storable (g : GSem nD τ sig) (r : ℕ) (d : Bool) :
    BI.Storable (upEmb : UEmb _ 𝕄) ((Rd (F := F) m ρ).payload g r d) := by
  show BI.Storable upEmb (((kind g.2).map fun q => pay m ρ g.1.1 q d).getD iprop(emp))
  cases kind g.2 with
  | none => show BI.Storable upEmb (iprop(emp) : sProp 𝕄); infer_instance
  | some q => exact pay_storable m ρ g.1.1 q d

section Sched
variable (c : Dev nD) (q : Cell)

theorem duties_eq : (Rd (F := F) m ρ).duties (kcell (c, q)) 0 = duts q := by
  dsimp only [Rd]
  rw [if_pos ⟨rfl, rfl⟩]
  show ((kind (csem q)).map duts).getD ∅ = _
  rw [kind_csem]; rfl
theorem duties_later (g : GSem nD τ sig) : ∀ r, 1 ≤ r → (Rd (F := F) m ρ).duties g r = ∅ :=
  fun r hr => by dsimp only [Rd]; exact if_neg fun h => by omega
theorem amount_eq (r : ℕ) (d : Bool) : (Rd (F := F) m ρ).amount (kcell (c, q)) r d = amt q := by
  show ((kind (csem q)).map amt).getD 1 = _
  rw [kind_csem]; rfl
theorem payload_eq (r : ℕ) (d : Bool) : (Rd (F := F) m ρ).payload (kcell (c, q)) r d = pay m ρ c q d := by
  show ((kind (csem q)).map fun q => pay m ρ c q d).getD iprop(emp) = _
  rw [kind_csem]; rfl
theorem expect_bar : (Rd (F := F) m ρ).expect (kcell (c, bar)) 0 = 2 := by
  unfold Schedule.expect Schedule.amountOf
  rw [duties_eq, Finset.sum_congr rfl fun d _ => amount_eq m ρ c bar 0 d]; rfl
theorem expect_own (o : Own) : (Rd (F := F) m ρ).expect (kcell (c, .inr o)) 0 = N := by
  unfold Schedule.expect Schedule.amountOf
  rw [duties_eq, Finset.sum_congr rfl fun d _ => amount_eq m ρ c (.inr o) 0 d]; exact Finset.sum_singleton _ _
/-- Everything the barrier's round hands over. -/
theorem rest_bar : bigSep ((Rd (F := F) m ρ).duties (kcell (c, bar)) 0 \ ∅) (fun d => (Rd (F := F) m ρ).payload (kcell (c, bar)) 0 d)
    = iprop(pay m ρ c bar false ∗ pay m ρ c bar true) := by
  rw [Finset.sdiff_empty, duties_eq]
  show bigSep Finset.univ _ = _
  rw [bigSep_univ_eq_bigSepL [false, true] (by decide) (by decide), bigSepL_cons_cons, bigSepL_singleton, payload_eq, payload_eq]
  rfl
/-- Everything a transfer's semaphore's round hands over. -/
theorem rest_own (o : Own) : bigSep ((Rd (F := F) m ρ).duties (kcell (c, .inr o)) 0 \ ∅) (fun d => (Rd (F := F) m ρ).payload (kcell (c, .inr o)) 0 d)
    = pay m ρ c (.inr o) false := by
  rw [Finset.sdiff_empty, duties_eq]
  show bigSep {false} _ = _
  rw [bigSep_singleton, payload_eq]

end Sched

/-! ## What is owed, and the levels -/

/-- What `c` owes along `y` for the blocks of `l`; -/
def owesB (c : Dev nD) : List (Fin 5) → CellTallies nD τ sig Unit
  | [] => 0
  | k :: l => owesB c l + tallyAt (kcell (yn c, rb k)) () N
/-- along `x` for the blocks of `l`, and all along `y`; -/
def owesA (c : Dev nD) : List (Fin 11) → CellTallies nD τ sig Unit
  | [] => owesB c all5
  | k :: l => owesA c l + tallyAt (kcell (xn c, ra k)) () N
/-- and with the units of the barrier. -/
def O₁ (c : Dev nD) : CellTallies nD τ sig Unit := owesA c all11 + tallyAt (kcell (yn c, bar)) () 1
def O₀ (c : Dev nD) : CellTallies nD τ sig Unit := O₁ c + tallyAt (kcell (xn c, bar)) () 1

def L (g : GSem nD τ sig) : Finset Unit := if g.1.2 = .tc then {()} else ∅
def lvl : Cell → ℕ
  | .inl _ => 1
  | .inr (.inr (.inl _)) => 2
  | .inr (.inr (.inr (.inr _))) => 3
  | _ => 0
def lv (g : GSem nD τ sig) (_ : Unit) : ℕ := ((kind g.2).map lvl).getD 0

theorem L_of_ne (g : GSem nD τ sig) (h : g.1.2 ≠ .tc) : L g = ∅ := if_neg h
theorem L_tc (c : Dev nD) (sm : SemLoc sig) : L ((c : Thread nD τ), sm) = {()} := if_pos rfl
theorem lv_eq (c : Dev nD) (q : Cell) (u : Unit) : lv (kcell (c, q)) u = lvl q := by
  show ((kind (csem q)).map lvl).getD 0 = _
  rw [kind_csem]; rfl

/-- Everything in `O` is owed to a device's cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O : CellTallies nD τ sig Unit} (hO : Above n O) (c : Dev nD) (q : Cell) (k : ℕ) (hq : n < lvl q) :
    Above n (O + tallyAt (kcell (c, q)) () k) := fun g u h => by
  rw [Pi.add_apply, Finsupp.add_apply, tallyAt_apply] at h
  by_cases hg : g = kcell (c, q) ∧ u = ()
  · rw [hg.1]; exact ⟨rfl, by rw [lv_eq]; exact hq⟩
  · rw [if_neg hg] at h; exact hO g u h
theorem above_owesB (c : Dev nD) (l : List (Fin 5)) {n : ℕ} (hn : n < 3) : Above n (owesB c l) := by
  induction l with
  | nil => exact above_zero n
  | cons k l ih => exact above_add ih _ _ _ hn
theorem above_owesA (c : Dev nD) (l : List (Fin 11)) {n : ℕ} (hn : n < 2) : Above n (owesA c l) := by
  induction l with
  | nil => exact above_owesB c _ (by omega)
  | cons k l ih => exact above_add ih _ _ _ hn
theorem above_O₀ (c : Dev nD) {n : ℕ} (hn : n < 1) : Above n (O₀ c) :=
  above_add (above_add (above_owesA c _ (by omega)) _ _ _ hn) _ _ _ hn

/-- A wait on a semaphore at level `n` or below is allowed while everything owed is above `n`. -/
theorem mayWait_above (c : Dev nD) (sm : SemLoc sig) (n : ℕ) (hs : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Fused

end
-- ==== Proof.Contents.lean ====
/-
# What the steps write

Each step's write, read back at the rows it wrote, is the buffer's intended contents there: a staged block
is the exchange buffer's, a block that arrives is the sender's, a computed block is the result's.
-/
module

public import proofs.«01_k».proof.Proof.Protocol
public import Idealize.ShloMosaic.Lib.ValueLayout
public import Idealize.ShloMosaic.Lib.ViewIndex

@[expose] public section

noncomputable section

namespace Cert.Fused

open Cert.KernelIdeal Cert.KernelIdeal.Gen

open Idealize.ShloMosaic Idealize.ShloMosaic.ValueIdx
open Idealize.ShloMosaic.TcCoe
open Idealize.SL Idealize.SL.Sem

variable {F : FTy → Type} [FloatOps F]
variable (m : (ℓ : Loc nD τ sig) → Buf (Elt F) ℓ) (ρ : Dev nD → PrngReg)

/-! ## Rows -/

theorem srcRow_low (c : Dev nD) (k : Fin 5) {r : ℕ} (hr : r < 32) : srcRow c (32 * (lowK k).val + r) = ownRow c k + r := by
  have : (lowK k).val = k.val := rfl
  unfold srcRow ownRow; have := k.isLt; rw [if_pos (by omega)]; omega
theorem srcRow_mid (c : Dev nD) (k : Fin 6) {r : ℕ} (hr : r < 32) : srcRow c (32 * (midK k).val + r) = midRow k + r := by
  have : (midK k).val = 5 + k.val := rfl
  unfold srcRow midRow; rw [if_neg (by omega)]; omega

/-- Row `r` of the 32 rows of the result from `a` on comes from `c`'s computation of block `k`. -/
structure IsBlock (c : Dev nD) (k : Fin 11) (a : ℕ) : Prop where
  src : ∀ r < 32, srcRow c (32 * k.val + r) = a + r
  own : ∀ i, a ≤ i → i < a + 32 → owner c i = c
  blk : ∀ i (h : i < 512), a ≤ i → i < a + 32 → blkOf i h = k
  div : a % 32 = 0

theorem isBlock_low (c : Dev nD) (k : Fin 5) : IsBlock c (lowK k) (ownRow c k) where
  src r hr := srcRow_low c k hr
  own i h1 h2 := by
    unfold ownRow at h1 h2; unfold owner; have := k.isLt
    rcases Nat.mod_two_eq_zero_or_one c.val with h | h
    · rw [if_pos (by omega), if_pos h]
    · rw [if_neg (by omega), if_pos (by omega), if_neg (by omega)]
  blk i hi h1 h2 := by
    unfold ownRow at h1 h2; have := k.isLt
    refine Fin.ext ?_
    show i % 352 / 32 = k.val
    rcases Nat.mod_two_eq_zero_or_one c.val with h | h <;> omega
  div := by unfold ownRow; omega
theorem isBlock_mid (c : Dev nD) (k : Fin 6) : IsBlock c (midK k) (midRow k) where
  src r hr := srcRow_mid c k hr
  own i h1 h2 := by
    unfold midRow at h1 h2; unfold owner; have := k.isLt
    rw [if_neg (by omega), if_neg (by omega)]
  blk i hi h1 h2 := by
    unfold midRow at h1 h2; have := k.isLt
    refine Fin.ext ?_
    show i % 352 / 32 = 5 + k.val
    omega
  div := by unfold midRow; omega

theorem owner_yn (c : Dev nD) (k : Fin 5) {i : ℕ} (h1 : ownRow c k ≤ i) (h2 : i < ownRow c k + 32) : owner (yn c) i = c := by
  have hy : (yn c).val % 2 = 1 - c.val % 2 := by clear h1 h2; revert c; decide
  unfold ownRow at h1 h2; unfold owner; have := k.isLt
  rcases Nat.mod_two_eq_zero_or_one c.val with h | h
  · rw [if_pos (by omega), if_neg (by omega), yn_yn]
  · rw [if_neg (by omega), if_pos (by omega), if_pos (by omega), yn_yn]

/-! ## Writes through a rectangle of a whole buffer -/

/-- A write through a rectangle, at the elements of the rectangle, is the array written. -/
theorem write_rect (b : Ref sig .tc) (r : Rect b.ty.shape) (f g : b.ty.Contents (Elt F)) (w : r.shape.Idx → Elt F b.ty.elt)
    (h : ∀ x, g (r.emb x) = w x) :
    ∀ i ∈ r.set, (((Memref.whole b).access r : View sig .tc _ _ _).write (Elt F) f w Finset.univ) i = g i := by
  intro i hi
  rw [← View.set_slice_whole (b := b) r] at hi
  obtain ⟨x, rfl⟩ := View.exists_of_mem_set_slice hi
  exact (View.write_emb_of_mem (v := ((Memref.whole b).access r : View sig .tc _ _ _)) f w (Finset.mem_univ x)).trans (h x).symm

/-! ## Staging -/

/-- A staged block is the exchange buffer's. -/
theorem stage_row (c : Dev nD) (off : Fin 3 → ℕ) (inb : ∀ a, off a + S1x32x512.size a ≤ S1x512x512.size a) (k : Fin 11)
    (h1 : ∀ r < 32, srcRow c (32 * k.val + r) = off 1 + r) (h2 : off 2 = 0) (f : (cc0_scratch0 : Ref sig .tc).ty.Contents (Elt F)) :
    ∀ i ∈ rowsA k, ((sM.access (recA k) : View sig .tc _ _ _).write (Elt F) f
        (stageVal (pM.view.readAt (Elt F) (Rect.unit (s := S1x512x512) off S1x32x512.size inb).toLoadRect (pStg m ρ c))) Finset.univ) i
      = sbuf m ρ c i := by
  rw [← recA_set]
  refine write_rect cc0_scratch0 (recA k) f (sbuf m ρ c) _ fun x => ?_
  obtain ⟨r, j, rfl⟩ : ∃ (r : Fin 32) (j : Fin 512), x = ix2 r j := ⟨x 0, x 1, eq_ix2 x⟩
  unfold stageVal k0_pay1
  dsimp only
  rw [shapeCast_self]
  refine Eq.trans ?_ (shapeCast_1ab_ab_apply (a := 32) (b := 512) _ shapeCasts_S1x32x512_S32x512 r j).symm
  show pStg m ρ c _ = pStg m ρ c _
  refine congrArg _ (funext fun a => Fin.ext ?_)
  have hr : srcRow c (32 * k.val + 1 * r.val) = off 1 + 1 * r.val := by rw [Nat.one_mul]; exact h1 r.val r.isLt
  have h0 : off 0 = 0 := by have := inb 0; have e1 : S1x32x512.size 0 = 1 := rfl; have e2 : S1x512x512.size 0 = 1 := rfl; omega
  match a with
  | 0 => show 0 = off 0 + 1 * 0; rw [h0]
  | 1 => exact hr
  | 2 => show 0 + 1 * j.val = off 2 + 1 * j.val; rw [h2]

/-! ## Arrivals -/

/-- A block of the exchange buffer, arrived at the neighbour, is the neighbour's receive buffer there. -/
theorem land_A (c : Dev nD) (k : Fin 11) (fd : (cc0_scratch1 : Ref sig .tc).ty.Contents (Elt F)) :
    ∀ i ∈ rowsA k, ((vSlice k).view.write (Elt F) fd ((sSlice k).view.read (Elt F) (sbuf m ρ c)) Finset.univ) i = vbuf m ρ (xn c) i := by
  rw [← recA_set]
  refine write_rect cc0_scratch1 (recA k) fd (vbuf m ρ (xn c)) _ fun x => ?_
  unfold vbuf; rw [xn_xn]; rfl

/-- On the rows `c` computes by its `y`, its result and its neighbour's are to hold the same. -/
theorem obuf_yn (c : Dev nD) (k : Fin 5) : ∀ i ∈ rowsO (ownRow c k), obuf m ρ c i = obuf m ρ (yn c) i := by
  intro i hi
  rw [mem_rowsO] at hi
  unfold obuf
  rw [(isBlock_low c k).own _ hi.1 hi.2, owner_yn c k hi.1 hi.2]

/-- A computed block, arrived at the neighbour, is the neighbour's result there. -/
theorem land_B (c : Dev nD) (k : Fin 5) (fd : (cc0_stg3_0 : Ref sig .tc).ty.Contents (Elt F)) :
    ∀ i ∈ rowsO (ownRow c k), ((oSlice c k).view.write (Elt F) fd ((oSlice c k).view.read (Elt F) (obuf m ρ c)) Finset.univ) i = obuf m ρ (yn c) i := by
  intro i hi
  rw [← obuf_yn m ρ c k i hi]
  rw [← recS_set] at hi
  exact write_rect cc0_stg3_0 (recS c k) fd (obuf m ρ c) _ (fun x => rfl) i hi

/-! ## Computing -/

/-- The rows of the residual a block is computed from. -/
theorem res_row (c : Dev nD) (off : Fin 2 → ℕ) (inb : ∀ a, off a + S32x512.size a ≤ S512x512.size a) (k : Fin 11)
    (hb : IsBlock c k (off 0)) (h1 : off 1 = 0) :
    rM.view.readAt (Elt F) (Rect.unit (s := S512x512) off S32x512.size inb).toLoadRect (rStg m ρ c) = resBlk m ρ c k := by
  funext (x : S32x512.Idx)
  show rStg m ρ c _ = rStg m ρ c _
  refine congrArg _ (funext fun a => Fin.ext ?_)
  match a with
  | 0 => show off 0 + 1 * (x 0).val = srcRow c (32 * k.val + (x 0).val); rw [hb.src _ (x 0).isLt, Nat.one_mul]
  | 1 => show off 1 + 1 * (x 1).val = (x 1).val; rw [h1]; omega

theorem scale_row (c : Dev nD) : gM.view.readAt (Elt F) recG.toLoadRect (gStg m ρ c) = gStg m ρ c :=
  Memref.readAt_unit_zero (Elt F) cc0_stg2_0 (funext fun a => by fin_cases a; rfl) _ _

/-- A computed block is the result's. -/
theorem compute_row (c : Dev nD) (off : Fin 2 → ℕ) (inb : ∀ a, off a + S32x512.size a ≤ S512x512.size a) (k : Fin 11)
    (hb : IsBlock c k (off 0)) (h1 : off 1 = 0) (f : (cc0_stg3_0 : Ref sig .tc).ty.Contents (Elt F)) :
    ∀ i ∈ rowsO (off 0), ((oM.access (Rect.unit (s := S512x512) off S32x512.size inb) : View sig .tc _ _ _).write (Elt F) f
        (outBlk m ρ c k) Finset.univ) i = obuf m ρ c i := by
  rw [← unit_rows off inb h1]
  refine write_rect cc0_stg3_0 (Rect.unit (s := S512x512) off S32x512.size inb) f (obuf m ρ c) _ fun x => ?_
  obtain ⟨r, j, rfl⟩ : ∃ (r : Fin 32) (j : Fin 512), x = ix2 r j := ⟨x 0, x 1, eq_ix2 x⟩
  have hr := r.isLt
  have hi : off 0 + 1 * r.val < 512 := by have : off 0 + 32 ≤ 512 := inb 0; omega
  show outBlk m ρ (owner c (off 0 + 1 * r.val)) (blkOf (off 0 + 1 * r.val) hi) _ = _
  rw [hb.own _ (by omega) (by omega), hb.blk _ hi (by omega) (by omega)]
  refine congrArg _ (funext fun a => Fin.ext ?_)
  match a with
  | 0 => show (off 0 + 1 * r.val) % 32 = r.val; have := hb.div; omega
  | 1 => show off 1 + 1 * j.val = j.val; rw [h1]; omega

end Cert.Fused

end
-- ==== Proof.Moves.lean ====
/-
# One proof for each kind of step

The rule of a loop over the blocks, and for each kind of step of the kernel's body what it starts from and
what it leaves.
-/
module

public import proofs.«01_k».proof.Proof.Contents

@[expose] public section

noncomputable section

namespace Cert.Fused

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What must hold before the code `e` runs on device `c`, to end in `Q`. -/
abbrev Wp (c : Dev nD) (e : Code F) (Q : PUnit → sProp 𝕄) : sProp 𝕄 :=
  wp frame (wpE (defs₀ (F := F)) 𝒱₀ (c : Thread nD τ) none) Set.univ e Q

/-! ## Loops -/

/-- One assertion for each number of a list. -/
def each' {ι : Type} (l : List ι) (Φ : ι → sProp 𝕄) : sProp 𝕄 :=
  match l with
  | [] => iprop(emp)
  | k :: l => iprop(Φ k ∗ each' l Φ)

theorem each'_eq {ι : Type} [DecidableEq ι] (l : List ι) (hl : l.Nodup) (Φ : ι → sProp 𝕄) : each' l Φ = bigSep l.toFinset Φ := by
  induction l with
  | nil => exact bigSep_empty.symm
  | cons k l ih =>
    rw [List.nodup_cons] at hl
    rw [List.toFinset_cons, bigSep_insert (by rw [List.mem_toFinset]; exact hl.1), ← ih hl.2]; rfl

theorem all5_eq (Φ : Fin 5 → sProp 𝕄) : bigSep Finset.univ Φ = each' all5 Φ :=
  (each'_eq all5 (by decide) Φ).symm ▸ congrArg (fun s => bigSep s Φ) (by decide)
theorem all6_eq (Φ : Fin 6 → sProp 𝕄) : bigSep Finset.univ Φ = each' all6 Φ :=
  (each'_eq all6 (by decide) Φ).symm ▸ congrArg (fun s => bigSep s Φ) (by decide)
theorem all11_eq (Φ : Fin 11 → sProp 𝕄) : bigSep Finset.univ Φ = each' all11 Φ :=
  (each'_eq all11 (by decide) Φ).symm ▸ congrArg (fun s => bigSep s Φ) (by decide)

/-- A loop, from its step: each step takes its own assertion and what the loop carries to its own assertion after and
    what the loop carries on. -/
theorem each_wp {ι : Type} (c : Dev nD) (step : ι → Code F → Code F) (Pre Post : ι → sProp 𝕄) (Inv : List ι → sProp 𝕄)
    (h : ∀ k l rest Q, iprop(Pre k ∗ Inv (k :: l)) ⊢ iprop(((Post k ∗ Inv l) -∗ Wp c rest Q) -∗ Wp c (step k rest) Q)) :
    ∀ l rest Q, iprop(each' l Pre ∗ Inv l) ⊢ iprop(((each' l Post ∗ Inv []) -∗ Wp c rest Q) -∗ Wp c (each step l rest) Q) := by
  intro l
  induction l with
  | nil =>
    intro rest Q
    iintro ⟨H, HI⟩ Hk
    iapply Hk
    isplitl [H]; · iexact H
    iexact HI
  | cons k l ih =>
    intro rest Q
    unfold each'
    iintro ⟨⟨Hk, Hl⟩, HI⟩ Hcont
    iapply (h k l (each step l rest) Q) $$ [Hk HI]
    · isplitl [Hk] <;> iassumption
    iintro ⟨Hp, HI⟩
    iapply (ih rest Q) $$ [Hl HI]
    · isplitl [Hl] <;> iassumption
    iintro ⟨Hq, HI⟩
    iapply Hcont
    isplitl [Hp Hq]
    · isplitl [Hp] <;> iassumption
    iexact HI

/-! ## The records every step may use -/

/-- Every cell's invariant, and that every cell has reached its round. -/
def records (K : Dev nD × Cell → ℕ) : sProp 𝕄 :=
  iprop((bigSep Finset.univ fun cq : Dev nD × Cell => cellInv ER (Rd m ρ) (K cq) (kcell cq))
    ∗ bigSep Finset.univ fun cq : Dev nD × Cell => reached ER (kcell cq) 0)

instance records_persistent (K : Dev nD × Cell → ℕ) : BI.Persistent (records m ρ K) := by unfold records; infer_instance

theorem inv_at (K : Dev nD × Cell → ℕ) (cq : Dev nD × Cell) : records m ρ K ⊢ cellInv ER (Rd m ρ) (K cq) (kcell cq) := by
  unfold records
  iintro ⟨H, -⟩
  have h : (bigSep Finset.univ fun cq : Dev nD × Cell => (cellInv ER (Rd m ρ) (K cq) (kcell cq) : sProp 𝕄)) ⊢ cellInv ER (Rd m ρ) (K cq) (kcell cq) :=
    bigSep_elim (Finset.mem_univ cq)
  iapply h
  iexact H
theorem reached_at (K : Dev nD × Cell → ℕ) (cq : Dev nD × Cell) : records m ρ K ⊢ reached ER (kcell cq) 0 := by
  unfold records
  iintro ⟨-, H⟩
  have h : (bigSep Finset.univ fun cq : Dev nD × Cell => (reached ER (kcell cq) 0 : sProp 𝕄)) ⊢ reached ER (kcell cq) 0 :=
    bigSep_elim (Finset.mem_univ cq)
  iapply h
  iexact H

variable (K : Dev nD × Cell → ℕ)

/-- What `c` still owes, whatever it has waited for. -/
def owing (c : Dev nD) (O : CellTallies nD τ sig Unit) : sProp 𝕄 := iprop(∃ W, owes (c : Thread nD τ) O W)

/-! ## Waits -/

/-- A wait for a whole round of one of the transfers' semaphores: the round's payload, and the semaphore at zero again. -/
theorem wait_own (c : Dev nD) (o : Own) (n : ℕ) (hl : lvl (.inr o) ≤ n) {O : CellTallies nD τ sig Unit} (hO : Above n O)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (osem o) N Kt)
    (rest : Code F) (Q : PUnit → sProp 𝕄) :
    iprop(records m ρ K ∗ levAts L lv ∗ cred (tallyAt (kcell (c, .inr o)) () N) ∗ atPos ER (kcell (c, .inr o)) 0 ∅ 0 ∗ owing c O)
      ⊢ iprop(((pay m ρ c (.inr o) false ∗ semVal (kcell (c, .inr o)) 0 ∗ owing c O) -∗ Wp c rest Q)
          -∗ Wp c (.op w fun _ => rest) Q) := by
  unfold owing
  iintro ⟨#HR, #Hlev, Hc, Hat, ⟨%W, HO⟩⟩ Hk
  iapply (Rounds.wp_wait_rest_token 𝒱₀ ER (Rd m ρ) (c : Thread nD τ) none (κ := K (c, .inr o)) hw (Set.mem_univ _) ()
      (O := O) (W := W) (R := 0) (m := 0) (T := ∅) (by rw [Nat.zero_add]; exact (expect_own m ρ c o).symm)) $$ [Hc HO Hat]
  · isplitr; · iapply (inv_at m ρ K (c, .inr o)); iexact HR
    isplitl [Hc]; · iexact Hc
    isplitl [HO]; · iexact HO
    isplitr
    · iapply (mayWait_above c (osem o) n (le_of_eq_of_le (lv_eq c (.inr o) ()) hl) hO); iexact Hlev
    iexact Hat
  iintro ⟨HO, Hat, -, Hpay⟩
  imod (Rounds.cell_close ER (Rd m ρ) (Set.mem_univ (K (c, .inr o))) (fun h => h) (R := 0 + 1) (duties_later m ρ (kcell (c, .inr o)))) $$ [Hat] with Hz
  · isplitr; · iapply (inv_at m ρ K (c, .inr o)); iexact HR
    iexact Hat
  iapply Hk
  isplitl [Hpay]
  · iapply (Entails.of_eq (rest_own m ρ c o)); iexact Hpay
  isplitl [Hz]; · iexact Hz
  iexists _; iexact HO

/-! ## Staging -/

/-- Staging a block. -/
theorem stage_wp (c : Dev nD) (off : Fin 3 → ℕ) (inb : ∀ a, off a + S1x32x512.size a ≤ S1x512x512.size a) (k : Fin 11)
    (h1 : ∀ r < 32, srcRow c (32 * k.val + r) = off 1 + r) (h2 : off 2 = 0) (rest : Code F) (Q : PUnit → sProp 𝕄) :
    iprop((∃ f, sPts c k fullShare f) ∗ (((c : Thread nD τ).loc cc0_stg0_0) ↦{fullShare} pStg m ρ c))
      ⊢ iprop(((sPts c k fullShare (sbuf m ρ c) ∗ (((c : Thread nD τ).loc cc0_stg0_0) ↦{fullShare} pStg m ρ c)) -∗ Wp c rest Q)
          -∗ Wp c (stage off inb k rest) Q) := by
  unfold stage sPts
  iintro ⟨⟨%f, Hs⟩, Hp⟩ Hk
  iapply (wp_load 𝒱₀ (c : Thread nD τ) none Set.univ (m := pM) (Finset.subset_univ _)) $$ Hp; iintro Hp
  iapply (wp_load_rect 𝒱₀ (c : Thread nD τ) none Set.univ (m := sM) (r := recA k) (S := rowsA k) (subset_of_eq (sSlice_set k))) $$ Hs; iintro Hs
  iapply (wp_store 𝒱₀ (c : Thread nD τ) none Set.univ (m := sM) (r := recA k) (Mk := Finset.univ) (S := rowsA k) (subset_of_eq (sSlice_set k))) $$ Hs; iintro Hs
  iapply Hk
  isplitl [Hs]
  · iapply (Entails.of_eq (pointsTo_congr (stage_row m ρ c off inb k h1 h2 f))); iexact Hs
  iexact Hp

/-! ## Transfers -/

/-- Sending a block along `x`. -/
theorem shipA_wp (c : Dev nD) (k : Fin 11) (O : CellTallies nD τ sig Unit) (rest : Code F) (Q : PUnit → sProp 𝕄) :
    iprop(records m ρ K ∗ sPts c k fullShare (sbuf m ρ c) ∗ (∃ f, vPts (xn c) k f)
        ∗ dutyTok ER (kcell (c, sa k)) 0 false ∗ dutyTok ER (kcell (xn c, ra k)) 0 false ∗ owing c (O + tallyAt (kcell (xn c, ra k)) () N))
      ⊢ iprop(((sPts c k fullShare.left (sbuf m ρ c) ∗ cred (tallyAt (kcell (c, sa k)) () N) ∗ owing c O) -∗ Wp c rest Q)
          -∗ Wp c (shipA c k rest) Q) := by
  unfold shipA owing
  iintro ⟨#HR, Hs, ⟨%fv, Hv⟩, Ht1, Ht2, ⟨%W, HO⟩⟩ Hk
  ihave Hs := (show sPts c k fullShare (sbuf m ρ c) ⊢ iprop(sPts c k fullShare.left (sbuf m ρ c) ∗ sPts c k fullShare.right (sbuf m ρ c))
    from (pointsTo_share (PosShare.mem_left_op_right fullShare)).1) $$ Hs
  icases Hs with ⟨HsL, HsR⟩
  iapply (Rounds.wp_send_pointsTo 𝒱₀ ER (Rd m ρ) (c : Thread nD τ) none (κ₁ := K (c, sa k)) (κ₂ := K (xn c, ra k))
    (r₁ := 0) (r₂ := 0) (d₁ := false) (d₂ := false) (fs := sbuf m ρ c) (fd := fv) (q := fullShare.right)
    (src := sSlice k) (dst := vSlice k) (c' := (xn c : Thread nD τ)) (sS := .dma (sendA k)) (sem := .dma (recvA k))
    (by rw [show ((c : Thread nD τ), SemLoc.dma (sendA k)) = kcell (c, sa k) from rfl, duties_eq]; exact Finset.mem_singleton_self _)
    (by rw [show ((xn c : Thread nD τ), SemLoc.dma (recvA k)) = kcell (xn c, ra k) from rfl, duties_eq]; exact Finset.mem_singleton_self _)
    () () N rfl (amount_eq m ρ c (sa k) 0 false) (amount_eq m ρ (xn c) (ra k) 0 false) O rfl (W := W)
    (by rw [show ((c : Thread nD τ), SemLoc.dma (sendA k)) = kcell (c, sa k) from rfl, payload_eq, sSlice_set]; exact BI.Entails.refl _)
    (by
      rw [show ((xn c : Thread nD τ), SemLoc.dma (recvA k)) = kcell (xn c, ra k) from rfl, payload_eq, vSlice_set]
      exact Entails.of_eq (pointsTo_congr (land_A m ρ c k fv)))) $$ [HsR Hv Ht1 Ht2 HO]
  · isplitr; · iapply (inv_at m ρ K (c, sa k)); iexact HR
    isplitr; · iapply (inv_at m ρ K (xn c, ra k)); iexact HR
    isplitl [HsR]; · rw [sSlice_set]; unfold sPts; iexact HsR
    isplitl [Hv]; · rw [vSlice_set]; unfold vPts; iexact Hv
    isplitl [HO]; · iexact HO
    isplitl [Ht1]; · iexact Ht1
    isplitr; · iapply (reached_at m ρ K (c, sa k)); iexact HR
    isplitl [Ht2]; · iexact Ht2
    iapply (reached_at m ρ K (xn c, ra k)); iexact HR
  iintro ⟨Hc, HO⟩
  iapply Hk
  isplitl [HsL]; · iexact HsL
  isplitl [Hc]; · iexact Hc
  iexists W; iexact HO

/-- Sending a computed block along `y`. -/
theorem shipB_wp (c : Dev nD) (k : Fin 5) (O : CellTallies nD τ sig Unit) (rest : Code F) (Q : PUnit → sProp 𝕄) :
    iprop(records m ρ K ∗ oPts c (ownRow c k) (obuf m ρ c) ∗ (∃ f, oPts (yn c) (ownRow c k) f)
        ∗ dutyTok ER (kcell (c, sb k)) 0 false ∗ dutyTok ER (kcell (yn c, rb k)) 0 false ∗ owing c (O + tallyAt (kcell (yn c, rb k)) () N))
      ⊢ iprop(((cred (tallyAt (kcell (c, sb k)) () N) ∗ owing c O) -∗ Wp c rest Q)
          -∗ Wp c (shipB c k rest) Q) := by
  unfold shipB owing
  iintro ⟨#HR, Hs, ⟨%fv, Hv⟩, Ht1, Ht2, ⟨%W, HO⟩⟩ Hk
  iapply (Rounds.wp_send_pointsTo 𝒱₀ ER (Rd m ρ) (c : Thread nD τ) none (κ₁ := K (c, sb k)) (κ₂ := K (yn c, rb k))
    (r₁ := 0) (r₂ := 0) (d₁ := false) (d₂ := false) (fs := obuf m ρ c) (fd := fv) (q := fullShare)
    (src := oSlice c k) (dst := oSlice c k) (c' := (yn c : Thread nD τ)) (sS := .dma (sendB k)) (sem := .dma (recvB k))
    (by rw [show ((c : Thread nD τ), SemLoc.dma (sendB k)) = kcell (c, sb k) from rfl, duties_eq]; exact Finset.mem_singleton_self _)
    (by rw [show ((yn c : Thread nD τ), SemLoc.dma (recvB k)) = kcell (yn c, rb k) from rfl, duties_eq]; exact Finset.mem_singleton_self _)
    () () N rfl (amount_eq m ρ c (sb k) 0 false) (amount_eq m ρ (yn c) (rb k) 0 false) O rfl (W := W)
    (by rw [show ((c : Thread nD τ), SemLoc.dma (sendB k)) = kcell (c, sb k) from rfl, payload_eq, oSlice_set]; exact BI.Entails.refl _)
    (by
      rw [show ((yn c : Thread nD τ), SemLoc.dma (recvB k)) = kcell (yn c, rb k) from rfl, payload_eq, oSlice_set]
      show _ ⊢ oPts (yn c) (theirRow (yn c) k) (obuf m ρ (yn c))
      rw [theirRow_yn]; unfold oPts
      exact Entails.of_eq (pointsTo_congr (land_B m ρ c k fv)))) $$ [Hs Hv Ht1 Ht2 HO]
  · isplitr; · iapply (inv_at m ρ K (c, sb k)); iexact HR
    isplitr; · iapply (inv_at m ρ K (yn c, rb k)); iexact HR
    isplitl [Hs]; · rw [oSlice_set]; unfold oPts; iexact Hs
    isplitl [Hv]; · rw [oSlice_set]; unfold oPts; iexact Hv
    isplitl [HO]; · iexact HO
    isplitl [Ht1]; · iexact Ht1
    isplitr; · iapply (reached_at m ρ K (c, sb k)); iexact HR
    isplitl [Ht2]; · iexact Ht2
    iapply (reached_at m ρ K (yn c, rb k)); iexact HR
  iintro ⟨Hc, HO⟩
  iapply Hk
  isplitl [Hc]; · iexact Hc
  iexists W; iexact HO

/-! ## Computing -/

/-- The staged residual and scale, which the computation reads. -/
def reads (c : Dev nD) : sProp 𝕄 :=
  iprop((((c : Thread nD τ).loc cc0_stg1_0) ↦{fullShare} rStg m ρ c) ∗ (((c : Thread nD τ).loc cc0_stg2_0) ↦{fullShare} gStg m ρ c))

/-- Computing a block. -/
theorem compute_wp (c : Dev nD) (k : Fin 11) (off : Fin 2 → ℕ) (inb : ∀ a, off a + S32x512.size a ≤ S512x512.size a)
    (hp : (Rect.unit (s := S512x512) off S32x512.size inb).PackedRows (EltTy.packing .bf16)) (hb : IsBlock c k (off 0)) (h1 : off 1 = 0)
    (rest : Code F) (Q : PUnit → sProp 𝕄) :
    iprop(sPts c k fullShare.left (sbuf m ρ c) ∗ vPts c k (vbuf m ρ c) ∗ (∃ f, oPts c (off 0) f) ∗ reads m ρ c)
      ⊢ iprop(((sPts c k fullShare.left (sbuf m ρ c) ∗ vPts c k (vbuf m ρ c) ∗ oPts c (off 0) (obuf m ρ c) ∗ reads m ρ c) -∗ Wp c rest Q)
          -∗ Wp c (compute k off inb hp rest) Q) := by
  have hset : (oM.slice (Rect.unit (s := S512x512) off S32x512.size inb) (fun _ => rfl)).view.set = rowsO (off 0) :=
    (View.set_slice_whole _ _).trans (unit_rows off inb h1)
  unfold compute sPts vPts oPts reads
  iintro ⟨Hs, Hv, ⟨%f, Ho⟩, Hr, Hg⟩ Hk
  iapply (wp_load_rect 𝒱₀ (c : Thread nD τ) none Set.univ (m := sM) (r := recA k) (S := rowsA k) (subset_of_eq (sSlice_set k))) $$ Hs; iintro Hs
  iapply (wp_load_rect 𝒱₀ (c : Thread nD τ) none Set.univ (m := vM) (r := recA k) (S := rowsA k) (subset_of_eq (vSlice_set k))) $$ Hv; iintro Hv
  iapply (wp_load 𝒱₀ (c : Thread nD τ) none Set.univ (m := rM) (Finset.subset_univ _)) $$ Hr; iintro Hr
  iapply (wp_load 𝒱₀ (c : Thread nD τ) none Set.univ (m := gM) (Finset.subset_univ _)) $$ Hg; iintro Hg
  iapply (wp_load_rect 𝒱₀ (c : Thread nD τ) none Set.univ (m := oM) (r := Rect.unit (s := S512x512) off S32x512.size inb) (S := rowsO (off 0)) (subset_of_eq hset)) $$ Ho; iintro Ho
  iapply (wp_store 𝒱₀ (c : Thread nD τ) none Set.univ (m := oM) (r := Rect.unit (s := S512x512) off S32x512.size inb) (Mk := Finset.univ) (S := rowsO (off 0)) (subset_of_eq hset)) $$ Ho; iintro Ho
  iapply Hk
  isplitl [Hs]; · iexact Hs
  isplitl [Hv]; · iexact Hv
  isplitl [Ho]
  · rw [res_row m ρ c off inb k hb h1, scale_row]
    iapply (Entails.of_eq (pointsTo_congr (compute_row m ρ c off inb k hb h1 f))); iexact Ho
  isplitl [Hr] <;> iassumption

end Cert.Fused

end
-- ==== Proof.Phases.lean ====
/-
# The loops of the body

Each loop of the body as a whole: what all its blocks start from, what they leave.
-/
module

public import proofs.«01_k».proof.Proof.Moves

@[expose] public section

noncomputable section

namespace Cert.Fused

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ)

/-! ## Families over the blocks and the cells -/

/-- The blocks of an exchange buffer are the first five and the last six. -/
theorem split11 (Φ : Fin 11 → sProp 𝕄) :
    bigSep Finset.univ Φ = iprop((bigSep Finset.univ fun k : Fin 5 => Φ (lowK k)) ∗ bigSep Finset.univ fun k : Fin 6 => Φ (midK k)) := by
  rw [bigSep_univ_equiv (finSumFinEquiv (m := 5) (n := 6)) Φ, bigSep_univ_sum]; rfl

/-- The cells of a device, by kind. -/
theorem cells_eq (Φ : Cell → sProp 𝕄) :
    bigSep Finset.univ Φ = iprop(Φ bar ∗ (bigSep Finset.univ fun k => Φ (sa k)) ∗ (bigSep Finset.univ fun k => Φ (ra k))
      ∗ (bigSep Finset.univ fun k => Φ (sb k)) ∗ bigSep Finset.univ fun k => Φ (rb k)) := by
  rw [bigSep_univ_sum, bigSep_univ_sum, bigSep_univ_sum, bigSep_univ_sum, Finset.univ_unique, bigSep_singleton]; rfl

/-! ## Staging -/

theorem stageB_all (c : Dev nD) (rest : Code F) (Q : PUnit → sProp 𝕄) :
    iprop((bigSep Finset.univ fun k : Fin 5 => iprop(∃ f, sPts c (lowK k) fullShare f)) ∗ (((c : Thread nD τ).loc cc0_stg0_0) ↦{fullShare} pStg m ρ c))
      ⊢ iprop((((bigSep Finset.univ fun k : Fin 5 => sPts c (lowK k) fullShare (sbuf m ρ c)) ∗ (((c : Thread nD τ).loc cc0_stg0_0) ↦{fullShare} pStg m ρ c)) -∗ Wp c rest Q)
          -∗ Wp c (each (stageB c) all5 rest) Q) := by
  rw [all5_eq, all5_eq]
  refine each_wp c (stageB c) _ _ (fun _ => (((c : Thread nD τ).loc cc0_stg0_0) ↦{fullShare} pStg m ρ c)) (fun k l rest Q => ?_) all5 rest Q
  have h := k0_off1_eq c k
  exact stage_wp m ρ c _ _ (lowK k) (fun r hr => by rw [srcRow_low c k hr, h]; rfl) (by rw [h]; rfl) rest Q

theorem stageM_all (c : Dev nD) (rest : Code F) (Q : PUnit → sProp 𝕄) :
    iprop((bigSep Finset.univ fun k : Fin 6 => iprop(∃ f, sPts c (midK k) fullShare f)) ∗ (((c : Thread nD τ).loc cc0_stg0_0) ↦{fullShare} pStg m ρ c))
      ⊢ iprop((((bigSep Finset.univ fun k : Fin 6 => sPts c (midK k) fullShare (sbuf m ρ c)) ∗ (((c : Thread nD τ).loc cc0_stg0_0) ↦{fullShare} pStg m ρ c)) -∗ Wp c rest Q)
          -∗ Wp c (each stageM all6 rest) Q) := by
  rw [all6_eq, all6_eq]
  refine each_wp c stageM _ _ (fun _ => (((c : Thread nD τ).loc cc0_stg0_0) ↦{fullShare} pStg m ρ c)) (fun k l rest Q => ?_) all6 rest Q
  exact stage_wp m ρ c _ _ (midK k) (fun r hr => srcRow_mid c k hr) rfl rest Q

/-! ## The handshake -/

/-- After the handshake `c` holds its neighbour's receive buffer along `x` and, along `y`, the rows it computes for it. -/
theorem shake_wp (c : Dev nD) (rest : Code F) (Q : PUnit → sProp 𝕄) :
    iprop(records m ρ K ∗ levAts L lv ∗ dutyTok ER (kcell (xn c, bar)) 0 false ∗ dutyTok ER (kcell (yn c, bar)) 0 true
        ∗ cred (tallyAt (kcell (c, bar)) () 2) ∗ atPos ER (kcell (c, bar)) 0 ∅ 0
        ∗ (bigSep Finset.univ fun k : Fin 11 => iprop(∃ f, vPts c k f)) ∗ (bigSep Finset.univ fun k : Fin 5 => iprop(∃ f, oPts c (theirRow c k) f))
        ∗ owing c (O₀ c))
      ⊢ iprop((((bigSep Finset.univ fun k : Fin 11 => iprop(∃ f, vPts (xn c) k f)) ∗ (bigSep Finset.univ fun k : Fin 5 => iprop(∃ f, oPts (yn c) (ownRow c k) f))
          ∗ semVal (kcell (c, bar)) 0 ∗ owing c (owesA c all11)) -∗ Wp c rest Q)
          -∗ Wp c (shake c rest) Q) := by
  unfold shake owing
  iintro ⟨#HR, #Hlev, Htx, Hty, Hc, Hat, Hv, Ho, ⟨%W, HO⟩⟩ Hk
  iapply (Rounds.wp_signal 𝒱₀ ER (Rd m ρ) (c : Thread nD τ) none (dst := (xn c : Thread nD τ)) (κ := K (xn c, bar))
      (d := false) (by rw [show ((xn c : Thread nD τ), SemLoc.reg barS) = kcell (xn c, bar) from rfl, duties_eq]; exact Finset.mem_univ _)
      ((amount_eq m ρ (xn c) bar 0 false).trans (by decide)) () (O₁ c) rfl) $$ [HO Htx Hv]
  · isplitr; · iapply (inv_at m ρ K (xn c, bar)); iexact HR
    isplitl [HO]; · iexact HO
    isplitl [Htx]; · iexact Htx
    isplitl [Hv]
    · rw [show ((xn c : Thread nD τ), SemLoc.reg barS) = kcell (xn c, bar) from rfl, payload_eq]
      unfold pay; rw [xn_xn]; iexact Hv
    iapply (reached_at m ρ K (xn c, bar)); iexact HR
  iintro HO
  iapply (Rounds.wp_signal 𝒱₀ ER (Rd m ρ) (c : Thread nD τ) none (dst := (yn c : Thread nD τ)) (κ := K (yn c, bar))
      (d := true) (by rw [show ((yn c : Thread nD τ), SemLoc.reg barS) = kcell (yn c, bar) from rfl, duties_eq]; exact Finset.mem_univ _)
      ((amount_eq m ρ (yn c) bar 0 true).trans (by decide)) () (owesA c all11) rfl) $$ [HO Hty Ho]
  · isplitr; · iapply (inv_at m ρ K (yn c, bar)); iexact HR
    isplitl [HO]; · iexact HO
    isplitl [Hty]; · iexact Hty
    isplitl [Ho]
    · rw [show ((yn c : Thread nD τ), SemLoc.reg barS) = kcell (yn c, bar) from rfl, payload_eq]
      unfold pay; simp only [yn_yn, ownRow_yn]; iexact Ho
    iapply (reached_at m ρ K (yn c, bar)); iexact HR
  iintro HO
  iapply (Rounds.wp_wait_rest_token 𝒱₀ ER (Rd m ρ) (c : Thread nD τ) none (κ := K (c, bar))
      (wpE_semWait_eq 𝒱₀ (c : Thread nD τ) none Set.univ) (Set.mem_univ _) () (O := owesA c all11) (W := W) (R := 0) (m := 0) (T := ∅)
      (by rw [show ((c : Thread nD τ), SemLoc.reg barS) = kcell (c, bar) from rfl, expect_bar])) $$ [Hc HO Hat]
  · isplitr; · iapply (inv_at m ρ K (c, bar)); iexact HR
    isplitl [Hc]; · iexact Hc
    isplitl [HO]; · iexact HO
    isplitr
    · iapply (mayWait_above c (.reg barS) 1 (le_of_eq (lv_eq c bar ())) (above_owesA c all11 (by decide))); iexact Hlev
    iexact Hat
  iintro ⟨HO, Hat, -, Hpay⟩
  imod (Rounds.cell_close ER (Rd m ρ) (Set.mem_univ (K (c, bar))) (fun h => h) (R := 0 + 1) (duties_later m ρ (kcell (c, bar)))) $$ [Hat] with Hz
  · isplitr; · iapply (inv_at m ρ K (c, bar)); iexact HR
    iexact Hat
  have hrest : bigSep ((Rd (F := F) m ρ).duties ((c : Thread nD τ), .reg barS) 0 \ ∅) (fun d => (Rd (F := F) m ρ).payload ((c : Thread nD τ), .reg barS) 0 d)
    = iprop(pay m ρ c bar false ∗ pay m ρ c bar true) := rest_bar m ρ c
  ihave Hp := (Entails.of_eq hrest) $$ Hpay
  icases Hp with ⟨Hv, Ho⟩
  iapply Hk
  isplitl [Hv]; · unfold pay; iexact Hv
  isplitl [Ho]; · unfold pay; iexact Ho
  isplitl [Hz]; · iexact Hz
  iexists _; iexact HO

/-! ## The transfers along `x` -/

theorem shipA_all (c : Dev nD) (rest : Code F) (Q : PUnit → sProp 𝕄) :
    iprop(records m ρ K ∗ (bigSep Finset.univ fun k => sPts c k fullShare (sbuf m ρ c)) ∗ (bigSep Finset.univ fun k => iprop(∃ f, vPts (xn c) k f))
        ∗ (bigSep Finset.univ fun k => dutyTok ER (kcell (c, sa k)) 0 false) ∗ (bigSep Finset.univ fun k => dutyTok ER (kcell (xn c, ra k)) 0 false)
        ∗ owing c (owesA c all11))
      ⊢ iprop((((bigSep Finset.univ fun k => sPts c k fullShare.left (sbuf m ρ c)) ∗ (bigSep Finset.univ fun k => cred (tallyAt (kcell (c, sa k)) () N))
          ∗ owing c (owesB c all5)) -∗ Wp c rest Q)
          -∗ Wp c (each (shipA c) all11 rest) Q) := by
  have h := each_wp c (shipA c)
    (fun k => iprop(sPts c k fullShare (sbuf m ρ c) ∗ (∃ f, vPts (xn c) k f) ∗ dutyTok ER (kcell (c, sa k)) 0 false ∗ dutyTok ER (kcell (xn c, ra k)) 0 false))
    (fun k => iprop(sPts c k fullShare.left (sbuf m ρ c) ∗ cred (tallyAt (kcell (c, sa k)) () N)))
    (fun l => iprop(records m ρ K ∗ owing c (owesA c l)))
    (fun k l rest Q => by
      iintro ⟨⟨H1, H2, H3, H4⟩, #HR, HO⟩ Hk
      iapply (shipA_wp m ρ K c k (owesA c l) rest Q) $$ [H1 H2 H3 H4 HO]
      · isplitr; · iexact HR
        isplitl [H1]; · iexact H1
        isplitl [H2]; · iexact H2
        isplitl [H3]; · iexact H3
        isplitl [H4]; · iexact H4
        iexact HO
      iintro ⟨H1, H2, HO⟩
      iapply Hk
      isplitl [H1 H2]
      · isplitl [H1] <;> iassumption
      isplitr; · iexact HR
      iexact HO) all11 rest Q
  rw [← all11_eq, ← all11_eq, bigSep_sep', bigSep_sep', bigSep_sep', bigSep_sep'] at h
  iintro ⟨#HR, H1, H2, H3, H4, HO⟩ Hk
  iapply h $$ [H1 H2 H3 H4 HO]
  · isplitl [H1 H2 H3 H4]
    · isplitl [H1]; · iexact H1
      isplitl [H2]; · iexact H2
      isplitl [H3]; · iexact H3
      iexact H4
    isplitr; · iexact HR
    iexact HO
  iintro ⟨⟨H1, H2⟩, -, HO⟩
  iapply Hk
  isplitl [H1]; · iexact H1
  isplitl [H2]; · iexact H2
  iexact HO

/-! ## The work -/

/-- Each transfer's wait takes the credit of one block. -/
theorem takeA_spec (c : Dev nD) (k : Fin 11) (Kt : PUnit → sProp 𝕄) :
    wpE (defs₀ (F := F)) 𝒱₀ (c : Thread nD τ) none Set.univ (.waitDma2 (recvA k) (sSlice k) (vSlice k) (sExact k) (vExact k)) Kt
      = waitSpec (c : Thread nD τ) Set.univ (osem (.inr (.inl k))) N Kt := rfl
theorem takeB_spec (c : Dev nD) (k : Fin 5) (Kt : PUnit → sProp 𝕄) :
    wpE (defs₀ (F := F)) 𝒱₀ (c : Thread nD τ) none Set.univ (.waitDma2 (recvB k) (nSlice c k) (nSlice c k) (nExact c k) (nExact c k)) Kt
      = waitSpec (c : Thread nD τ) Set.univ (osem (.inr (.inr (.inr k)))) N Kt := rfl
theorem leftA_spec (c : Dev nD) (k : Fin 11) (Kt : PUnit → sProp 𝕄) :
    wpE (defs₀ (F := F)) 𝒱₀ (c : Thread nD τ) none Set.univ (.waitDma2 (sendA k) (vSlice k) (sSlice k) (vExact k) (sExact k)) Kt
      = waitSpec (c : Thread nD τ) Set.univ (osem (.inl k)) N Kt := rfl
theorem leftB_spec (c : Dev nD) (k : Fin 5) (Kt : PUnit → sProp 𝕄) :
    wpE (defs₀ (F := F)) 𝒱₀ (c : Thread nD τ) none Set.univ (.waitDma2 (sendB k) (oSlice c k) (oSlice c k) (oExact c k) (oExact c k)) Kt
      = waitSpec (c : Thread nD τ) Set.univ (osem (.inr (.inr (.inl k)))) N Kt := rfl

/-- The blocks of the device's own rows: each waited for, computed and sent on. -/
theorem workB_all (c : Dev nD) (rest : Code F) (Q : PUnit → sProp 𝕄) :
    iprop(records m ρ K ∗ levAts L lv ∗ (bigSep Finset.univ fun k : Fin 5 => sPts c (lowK k) fullShare.left (sbuf m ρ c))
        ∗ (bigSep Finset.univ fun k : Fin 5 => cred (tallyAt (kcell (c, ra (lowK k))) () N)) ∗ (bigSep Finset.univ fun k : Fin 5 => atPos ER (kcell (c, ra (lowK k))) 0 ∅ 0)
        ∗ (bigSep Finset.univ fun k : Fin 5 => iprop(∃ f, oPts c (ownRow c k) f)) ∗ (bigSep Finset.univ fun k : Fin 5 => iprop(∃ f, oPts (yn c) (ownRow c k) f))
        ∗ (bigSep Finset.univ fun k => dutyTok ER (kcell (c, sb k)) 0 false) ∗ (bigSep Finset.univ fun k => dutyTok ER (kcell (yn c, rb k)) 0 false)
        ∗ reads m ρ c ∗ owing c (owesB c all5))
      ⊢ iprop((((bigSep Finset.univ fun k : Fin 5 => sPts c (lowK k) fullShare.left (sbuf m ρ c)) ∗ (bigSep Finset.univ fun k : Fin 5 => vPts c (lowK k) (vbuf m ρ c))
          ∗ (bigSep Finset.univ fun k : Fin 5 => semVal (kcell (c, ra (lowK k))) 0) ∗ (bigSep Finset.univ fun k => cred (tallyAt (kcell (c, sb k)) () N))
          ∗ reads m ρ c ∗ owing c 0) -∗ Wp c rest Q)
          -∗ Wp c (each (workB c) all5 rest) Q) := by
  have h := each_wp c (workB c)
    (fun k => iprop(sPts c (lowK k) fullShare.left (sbuf m ρ c) ∗ cred (tallyAt (kcell (c, ra (lowK k))) () N) ∗ atPos ER (kcell (c, ra (lowK k))) 0 ∅ 0
      ∗ (∃ f, oPts c (ownRow c k) f) ∗ (∃ f, oPts (yn c) (ownRow c k) f) ∗ dutyTok ER (kcell (c, sb k)) 0 false ∗ dutyTok ER (kcell (yn c, rb k)) 0 false))
    (fun k => iprop(sPts c (lowK k) fullShare.left (sbuf m ρ c) ∗ vPts c (lowK k) (vbuf m ρ c) ∗ semVal (kcell (c, ra (lowK k))) 0 ∗ cred (tallyAt (kcell (c, sb k)) () N)))
    (fun l => iprop(records m ρ K ∗ levAts L lv ∗ reads m ρ c ∗ owing c (owesB c l)))
    (fun k l rest Q => by
      have e := k0_off2_eq c k
      have e0 : k0_off2 c (BitVec.ofNat 32 (32 * k.val)) 0 = ownRow c k := by rw [e]; rfl
      iintro ⟨⟨Hs, Hc, Hat, Ho, Hy, Ht1, Ht2⟩, #HR, #Hlev, Hr, HO⟩ Hk
      unfold workB takeA
      iapply (wait_own m ρ K c (.inr (.inl (lowK k))) 2 (le_refl 2) (above_owesB c (k :: l) (by decide)) (takeA_spec c (lowK k))) $$ [Hc Hat HO]
      · isplitr; · iexact HR
        isplitr; · iexact Hlev
        isplitl [Hc]; · iexact Hc
        isplitl [Hat]; · iexact Hat
        iexact HO
      iintro ⟨Hv, Hz, HO⟩
      iapply (compute_wp m ρ c (lowK k) _ _ _ (by rw [e0]; exact isBlock_low c k) (by rw [e]; rfl)) $$ [Hs Hv Ho Hr]
      · isplitl [Hs]; · iexact Hs
        isplitl [Hv]; · unfold pay; iexact Hv
        isplitl [Ho]; · rw [e0]; iexact Ho
        iexact Hr
      rw [e0]
      iintro ⟨Hs, Hv, Ho, Hr⟩
      iapply (shipB_wp m ρ K c k (owesB c l) rest Q) $$ [Ho Hy Ht1 Ht2 HO]
      · isplitr; · iexact HR
        isplitl [Ho]; · iexact Ho
        isplitl [Hy]; · iexact Hy
        isplitl [Ht1]; · iexact Ht1
        isplitl [Ht2]; · iexact Ht2
        iexact HO
      iintro ⟨Hc, HO⟩
      iapply Hk
      isplitl [Hs Hv Hz Hc]
      · isplitl [Hs]; · iexact Hs
        isplitl [Hv]; · iexact Hv
        isplitl [Hz]; · iexact Hz
        iexact Hc
      isplitr; · iexact HR
      isplitr; · iexact Hlev
      isplitl [Hr]; · iexact Hr
      iexact HO) all5 rest Q
  rw [← all5_eq, ← all5_eq] at h
  simp only [bigSep_sep'] at h
  iintro ⟨#HR, #Hlev, H1, H2, H3, H4, H5, H6, H7, Hr, HO⟩ Hk
  iapply h $$ [H1 H2 H3 H4 H5 H6 H7 Hr HO]
  · isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitr; · iexact HR
    isplitr; · iexact Hlev
    isplitl [Hr]; · iexact Hr
    iexact HO
  iintro ⟨⟨H1, H2, H3, H4⟩, -, -, Hr, HO⟩
  iapply Hk
  isplitl [H1]; · iexact H1
  isplitl [H2]; · iexact H2
  isplitl [H3]; · iexact H3
  isplitl [H4]; · iexact H4
  isplitl [Hr]; · iexact Hr
  iexact HO

/-- The blocks of the rows both compute: each waited for and computed. -/
theorem workM_all (c : Dev nD) (rest : Code F) (Q : PUnit → sProp 𝕄) :
    iprop(records m ρ K ∗ levAts L lv ∗ (bigSep Finset.univ fun k : Fin 6 => sPts c (midK k) fullShare.left (sbuf m ρ c))
        ∗ (bigSep Finset.univ fun k : Fin 6 => cred (tallyAt (kcell (c, ra (midK k))) () N)) ∗ (bigSep Finset.univ fun k : Fin 6 => atPos ER (kcell (c, ra (midK k))) 0 ∅ 0)
        ∗ (bigSep Finset.univ fun k : Fin 6 => iprop(∃ f, oPts c (midRow k) f))
        ∗ reads m ρ c ∗ owing c 0)
      ⊢ iprop((((bigSep Finset.univ fun k : Fin 6 => sPts c (midK k) fullShare.left (sbuf m ρ c)) ∗ (bigSep Finset.univ fun k : Fin 6 => vPts c (midK k) (vbuf m ρ c))
          ∗ (bigSep Finset.univ fun k : Fin 6 => semVal (kcell (c, ra (midK k))) 0) ∗ (bigSep Finset.univ fun k : Fin 6 => oPts c (midRow k) (obuf m ρ c))
          ∗ reads m ρ c ∗ owing c 0) -∗ Wp c rest Q)
          -∗ Wp c (each workM all6 rest) Q) := by
  have h := each_wp c workM
    (fun k => iprop(sPts c (midK k) fullShare.left (sbuf m ρ c) ∗ cred (tallyAt (kcell (c, ra (midK k))) () N) ∗ atPos ER (kcell (c, ra (midK k))) 0 ∅ 0
      ∗ (∃ f, oPts c (midRow k) f)))
    (fun k => iprop(sPts c (midK k) fullShare.left (sbuf m ρ c) ∗ vPts c (midK k) (vbuf m ρ c) ∗ semVal (kcell (c, ra (midK k))) 0 ∗ oPts c (midRow k) (obuf m ρ c)))
    (fun l => iprop(records m ρ K ∗ levAts L lv ∗ reads m ρ c ∗ owing c 0))
    (fun k l rest Q => by
      iintro ⟨⟨Hs, Hc, Hat, Ho⟩, #HR, #Hlev, Hr, HO⟩ Hk
      unfold workM takeA
      iapply (wait_own m ρ K c (.inr (.inl (midK k))) 2 (le_refl 2) (above_zero 2) (takeA_spec c (midK k))) $$ [Hc Hat HO]
      · isplitr; · iexact HR
        isplitr; · iexact Hlev
        isplitl [Hc]; · iexact Hc
        isplitl [Hat]; · iexact Hat
        iexact HO
      iintro ⟨Hv, Hz, HO⟩
      iapply (compute_wp m ρ c (midK k) _ _ _ (isBlock_mid c k) rfl) $$ [Hs Hv Ho Hr]
      · isplitl [Hs]; · iexact Hs
        isplitl [Hv]; · unfold pay; iexact Hv
        isplitl [Ho]; · iexact Ho
        iexact Hr
      iintro ⟨Hs, Hv, Ho, Hr⟩
      iapply Hk
      isplitl [Hs Hv Hz Ho]
      · isplitl [Hs]; · iexact Hs
        isplitl [Hv]; · iexact Hv
        isplitl [Hz]; · iexact Hz
        iexact Ho
      isplitr; · iexact HR
      isplitr; · iexact Hlev
      isplitl [Hr]; · iexact Hr
      iexact HO) all6 rest Q
  rw [← all6_eq, ← all6_eq] at h
  simp only [bigSep_sep'] at h
  iintro ⟨#HR, #Hlev, H1, H2, H3, H4, Hr, HO⟩ Hk
  iapply h $$ [H1 H2 H3 H4 Hr HO]
  · isplitl [H1 H2 H3 H4]
    · isplitl [H1]; · iexact H1
      isplitl [H2]; · iexact H2
      isplitl [H3]; · iexact H3
      iexact H4
    isplitr; · iexact HR
    isplitr; · iexact Hlev
    isplitl [Hr]; · iexact Hr
    iexact HO
  iintro ⟨⟨H1, H2, H3, H4⟩, -, -, Hr, HO⟩
  iapply Hk
  isplitl [H1]; · iexact H1
  isplitl [H2]; · iexact H2
  isplitl [H3]; · iexact H3
  isplitl [H4]; · iexact H4
  isplitl [Hr]; · iexact Hr
  iexact HO

/-! ## The last waits -/

/-- A loop of waits for transfers, nothing owed: each gives its semaphore's payload and the semaphore at zero. -/
theorem wait_all {n : ℕ} (c : Dev nD) (l : List (Fin n)) (hl : ∀ Φ : Fin n → sProp 𝕄, bigSep Finset.univ Φ = each' l Φ) (o : Fin n → Own)
    (w : Fin n → TpuEff nD τ sig (Elt F) Λ₀ .tc PUnit)
    (hw : ∀ k, ∀ Kt : PUnit → sProp 𝕄, wpE (defs₀ (F := F)) 𝒱₀ (c : Thread nD τ) none Set.univ (w k) Kt = waitSpec (c : Thread nD τ) Set.univ (osem (o k)) N Kt)
    (rest : Code F) (Q : PUnit → sProp 𝕄) :
    iprop(records m ρ K ∗ levAts L lv ∗ (bigSep Finset.univ fun k => cred (tallyAt (kcell (c, .inr (o k))) () N))
        ∗ (bigSep Finset.univ fun k => atPos ER (kcell (c, .inr (o k))) 0 ∅ 0) ∗ owing c 0)
      ⊢ iprop((((bigSep Finset.univ fun k => pay m ρ c (.inr (o k)) false) ∗ (bigSep Finset.univ fun k => semVal (kcell (c, .inr (o k))) 0) ∗ owing c 0) -∗ Wp c rest Q)
          -∗ Wp c (each (fun k rest => .op (w k) fun _ => rest) l rest) Q) := by
  have h := each_wp c (fun k rest => .op (w k) fun _ => rest)
    (fun k => iprop(cred (tallyAt (kcell (c, .inr (o k))) () N) ∗ atPos ER (kcell (c, .inr (o k))) 0 ∅ 0))
    (fun k => iprop(pay m ρ c (.inr (o k)) false ∗ semVal (kcell (c, .inr (o k))) 0))
    (fun l => iprop(records m ρ K ∗ levAts L lv ∗ owing c 0))
    (fun k l rest Q => by
      iintro ⟨⟨Hc, Hat⟩, #HR, #Hlev, HO⟩ Hk
      iapply (wait_own m ρ K c (o k) _ (le_refl _) (above_zero _) (hw k)) $$ [Hc Hat HO]
      · isplitr; · iexact HR
        isplitr; · iexact Hlev
        isplitl [Hc]; · iexact Hc
        isplitl [Hat]; · iexact Hat
        iexact HO
      iintro ⟨Hv, Hz, HO⟩
      iapply Hk
      isplitl [Hv Hz]
      · isplitl [Hv] <;> iassumption
      isplitr; · iexact HR
      isplitr; · iexact Hlev
      iexact HO) l rest Q
  rw [← hl, ← hl, bigSep_sep', bigSep_sep'] at h
  iintro ⟨#HR, #Hlev, H1, H2, HO⟩ Hk
  iapply h $$ [H1 H2 HO]
  · isplitl [H1 H2]
    · isplitl [H1] <;> iassumption
    isplitr; · iexact HR
    isplitr; · iexact Hlev
    iexact HO
  iintro ⟨⟨H1, H2⟩, -, -, HO⟩
  iapply Hk
  isplitl [H1]; · iexact H1
  isplitl [H2]; · iexact H2
  iexact HO

end Cert.Fused

end
-- ==== Proof.Body.lean ====
/-
# The body on one device

From what the launch gives a device to what the kernel leaves there: the staged inputs unchanged, the result
at its contents, every semaphore back at zero.
-/
module

public import proofs.«01_k».proof.Proof.Phases
public import proofs.«01_k».proof.Proof.Gen.KernelIdeal.Points

@[expose] public section

noncomputable section

namespace Cert.Fused

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers in blocks -/

/-- The blocks of rows of a result: those `c` computes by its `y`, those both compute, those its neighbour computes. -/
abbrev Part : Type := Fin 5 ⊕ Fin 6 ⊕ Fin 5
def first (c : Dev nD) : Part → ℕ
  | .inl k => ownRow c k
  | .inr (.inl k) => midRow k
  | .inr (.inr k) => theirRow c k

theorem first_div (c : Dev nD) (t : Part) : first c t % 32 = 0 := by
  rcases t with k | k | k <;> revert c k <;> decide
theorem first_onto (c : Dev nD) (b : Fin 16) : ∃ t, first c t = 32 * b.val := by revert c b; decide
theorem first_inj (c : Dev nD) (t t' : Part) (h : first c t = first c t') : t = t' := by
  rcases t with k | k | k <;> rcases t' with k' | k' | k' <;> revert c k k' <;> decide

theorem parts_disjoint (c : Dev nD) : ∀ t ∈ (Finset.univ : Finset Part), ∀ t' ∈ (Finset.univ : Finset Part), t ≠ t' → Disjoint (rowsO (first c t)) (rowsO (first c t')) := by
  intro t _ t' _ hne
  refine Finset.disjoint_left.mpr fun i h h' => hne (first_inj c t t' ?_)
  rw [mem_rowsO] at h h'
  have := first_div c t; have := first_div c t'; omega
theorem parts_cover (c : Dev nD) : (Finset.univ : Finset Part).biUnion (fun t => rowsO (first c t)) = Finset.univ := by
  refine Finset.eq_univ_iff_forall.mpr fun i => ?_
  have hi : (i 0).val < 512 := (i 0).isLt
  obtain ⟨t, ht⟩ := first_onto c ⟨(i 0).val / 32, by omega⟩
  refine Finset.mem_biUnion.mpr ⟨t, Finset.mem_univ _, ?_⟩
  rw [mem_rowsO, ht]; dsimp only; omega

theorem blocks_disjoint : ∀ k ∈ (Finset.univ : Finset (Fin 11)), ∀ k' ∈ (Finset.univ : Finset (Fin 11)), k ≠ k' → Disjoint (rowsA k) (rowsA k') := by
  intro k _ k' _ hne
  refine Finset.disjoint_left.mpr fun i h h' => hne (Fin.ext ?_)
  rw [mem_rowsA] at h h'; omega
theorem blocks_cover : (Finset.univ : Finset (Fin 11)).biUnion rowsA = Finset.univ := by
  refine Finset.eq_univ_iff_forall.mpr fun i => ?_
  have hi : (i 0).val < 352 := (i 0).isLt
  refine Finset.mem_biUnion.mpr ⟨⟨(i 0).val / 32, by omega⟩, Finset.mem_univ _, ?_⟩
  rw [mem_rowsA]; dsimp only; omega

/-- A share of an exchange buffer is that share of its blocks; -/
theorem s_blocks (c : Dev nD) (q : PosShare TreeShare) (f : (cc0_scratch0 : Ref sig .tc).ty.Contents (Elt F)) :
    (((c : Thread nD τ).loc cc0_scratch0) ↦{q} f : sProp 𝕄) = bigSep Finset.univ fun k => sPts c k q f := by
  rw [← blocks_cover, pointsTo_biUnion _ _ blocks_disjoint]; rfl
/-- a receive buffer is its blocks; -/
theorem v_blocks (c : Dev nD) (f : (cc0_scratch1 : Ref sig .tc).ty.Contents (Elt F)) :
    (((c : Thread nD τ).loc cc0_scratch1) ↦{fullShare} f : sProp 𝕄) = bigSep Finset.univ fun k => vPts c k f := by
  rw [← blocks_cover, pointsTo_biUnion _ _ blocks_disjoint]; rfl
/-- a result is its blocks of rows. -/
theorem o_blocks (c : Dev nD) (f : (cc0_stg3_0 : Ref sig .tc).ty.Contents (Elt F)) :
    (((c : Thread nD τ).loc cc0_stg3_0) ↦{fullShare} f : sProp 𝕄)
      = iprop((bigSep Finset.univ fun k : Fin 5 => oPts c (ownRow c k) f) ∗ (bigSep Finset.univ fun k : Fin 6 => oPts c (midRow k) f)
        ∗ bigSep Finset.univ fun k : Fin 5 => oPts c (theirRow c k) f) := by
  rw [← parts_cover c, pointsTo_biUnion _ _ (parts_disjoint c), bigSep_univ_sum, bigSep_univ_sum]; rfl

/-! ## The staging's proof data -/

/-- What device `c`'s body starts from, of the protocol: every cell's records; its own positions; the tokens of the
    duties it pays. -/
def ghost (K : Dev nD × Cell → ℕ) (c : Dev nD) : sProp 𝕄 :=
  iprop(records m ρ K
    ∗ (bigSep Finset.univ fun q : Cell => atPos ER (kcell (c, q)) 0 ∅ 0)
    ∗ dutyTok ER (kcell (xn c, bar)) 0 false ∗ dutyTok ER (kcell (yn c, bar)) 0 true
    ∗ (bigSep Finset.univ fun k => dutyTok ER (kcell (c, sa k)) 0 false) ∗ (bigSep Finset.univ fun k => dutyTok ER (kcell (xn c, ra k)) 0 false)
    ∗ (bigSep Finset.univ fun k => dutyTok ER (kcell (c, sb k)) 0 false) ∗ (bigSep Finset.univ fun k => dutyTok ER (kcell (yn c, rb k)) 0 false))

/-- The credit the launch gives `c` for what its neighbours owe it. -/
def credits (c : Dev nD) : sProp 𝕄 :=
  iprop(cred (tallyAt (kcell (c, bar)) () 2) ∗ (bigSep Finset.univ fun k => cred (tallyAt (kcell (c, ra k)) () N))
    ∗ bigSep Finset.univ fun k => cred (tallyAt (kcell (c, rb k)) () N))

/-- All of it, with the levels. -/
def start (c : Dev nD) : sProp 𝕄 := iprop((∃ K, ghost m ρ K c) ∗ credits c ∗ levAts L lv)

/-- Before the body: the start, and the two exchange buffers at any contents. -/
def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)
/-- After it: the two buffers as exchanged, every semaphore of the protocol at zero. -/
def Φ₁ (c : Dev nD) : sProp 𝕄 :=
  iprop((((c : Thread nD τ).loc cc0_scratch0) ↦{fullShare} sbuf m ρ c) ∗ (((c : Thread nD τ).loc cc0_scratch1) ↦{fullShare} vbuf m ρ c)
    ∗ bigSep Finset.univ fun q : Cell => semVal (kcell (c, q)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pStg m ρ c
    | ⟨1, _⟩ => rStg m ρ c
    | ⟨2, _⟩ => gStg m ρ c
    | ⟨3, _⟩ => obuf m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body
variable (K : Dev nD × Cell → ℕ)

/-- A staging buffer of device `c`, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ (∃ f, ((c : Thread nD τ).loc cc0_scratch0) ↦{fullShare} f) ∗ ∃ f, ((c : Thread nD τ).loc cc0_scratch1) ↦{fullShare} f)
    ∗ owing c (O₀ c)
    ∗ (((c : Thread nD τ).loc cc0_stg0_0) ↦{fullShare} pStg m ρ c) ∗ reads m ρ c
    ∗ ∃ f, ((c : Thread nD τ).loc cc0_stg3_0) ↦{fullShare} f)

def bodyPost (c : Dev nD) : sProp 𝕄 :=
  iprop(Φ₁ m ρ c ∗ owing c 0
    ∗ (((c : Thread nD τ).loc cc0_stg0_0) ↦{fullShare} pStg m ρ c) ∗ reads m ρ c
    ∗ ((c : Thread nD τ).loc cc0_stg3_0) ↦{fullShare} obuf m ρ c)

/-- A family of blocks at one contents is one of blocks each at some contents. -/
theorem some_each {ι : Type} [Fintype ι] {X : Type} (Φ : ι → X → sProp 𝕄) (f : X) :
    (bigSep Finset.univ fun k => Φ k f) ⊢ bigSep Finset.univ fun k => iprop(∃ f, Φ k f) :=
  have h (k : ι) : Φ k f ⊢ iprop(∃ f, Φ k f) := by iintro H; iexists f; iexact H
  bigSep_mono fun k _ => h k

/-- The loops, run on device `c` from `bodyPre`, end in `bodyPost`. -/
theorem loops_wp (c : Dev nD) (Q : PUnit → sProp 𝕄) :
    iprop(bodyPre m ρ K c ∗ (bodyPost m ρ c -∗ Q ⟨⟩)) ⊢ Wp c (loops c) Q := by
  unfold bodyPre ghost credits loops
  rw [cells_eq]
  iintro ⟨⟨⟨⟨#HR, ⟨HatBar, HatSA, HatRA, HatSB, HatRB⟩, Htx, Hty, HtSA, HtRA, HtSB, HtRB⟩, ⟨HcBar, HcRA, HcRB⟩, #Hlev, ⟨%f0, Hs⟩, ⟨%f1, Hv⟩⟩,
    HO, Hp, Hr, ⟨%f3, Ho⟩⟩, Hk⟩
  -- the buffers in blocks
  ihave Hs := (Entails.of_eq ((s_blocks c fullShare f0).trans (split11 _))) $$ Hs
  icases Hs with ⟨HsB, HsM⟩
  ihave HsB := (some_each (fun (k : Fin 5) f => sPts c (lowK k) fullShare f) f0) $$ HsB
  ihave HsM := (some_each (fun (k : Fin 6) f => sPts c (midK k) fullShare f) f0) $$ HsM
  ihave Hv := (Entails.of_eq (v_blocks c f1)) $$ Hv
  ihave Hv := (some_each (fun (k : Fin 11) f => vPts c k f) f1) $$ Hv
  ihave Ho := (Entails.of_eq (o_blocks c f3)) $$ Ho
  icases Ho with ⟨HoB, HoM, HoN⟩
  ihave HoB := (some_each (fun (k : Fin 5) f => oPts c (ownRow c k) f) f3) $$ HoB
  ihave HoM := (some_each (fun (k : Fin 6) f => oPts c (midRow k) f) f3) $$ HoM
  ihave HoN := (some_each (fun (k : Fin 5) f => oPts c (theirRow c k) f) f3) $$ HoN
  ihave HcRA := (Entails.of_eq (split11 _)) $$ HcRA
  icases HcRA with ⟨HcRAB, HcRAM⟩
  ihave HatRA := (Entails.of_eq (split11 _)) $$ HatRA
  icases HatRA with ⟨HatRAB, HatRAM⟩
  -- staging
  iapply (stageB_all m ρ c) $$ [HsB Hp]
  · isplitl [HsB] <;> iassumption
  iintro ⟨HsB, Hp⟩
  iapply (stageM_all m ρ c) $$ [HsM Hp]
  · isplitl [HsM] <;> iassumption
  iintro ⟨HsM, Hp⟩
  -- the handshake
  iapply (shake_wp m ρ K c) $$ [Htx Hty HcBar HatBar Hv HoN HO]
  · isplitr; · iexact HR
    isplitr; · iexact Hlev
    isplitl [Htx]; · iexact Htx
    isplitl [Hty]; · iexact Hty
    isplitl [HcBar]; · iexact HcBar
    isplitl [HatBar]; · iexact HatBar
    isplitl [Hv]; · iexact Hv
    isplitl [HoN]; · iexact HoN
    iexact HO
  iintro ⟨Hv, HoY, HzBar, HO⟩
  -- the transfers along `x`
  iapply (shipA_all m ρ K c) $$ [HsB HsM Hv HtSA HtRA HO]
  · isplitr; · iexact HR
    isplitl [HsB HsM]
    · iapply (Entails.of_eq (split11 fun k => sPts c k fullShare (sbuf m ρ c)).symm)
      isplitl [HsB] <;> iassumption
    isplitl [Hv]; · iexact Hv
    isplitl [HtSA]; · iexact HtSA
    isplitl [HtRA]; · iexact HtRA
    iexact HO
  iintro ⟨Hs, HcSA, HO⟩
  ihave Hs := (Entails.of_eq (split11 _)) $$ Hs
  icases Hs with ⟨HsB, HsM⟩
  -- the work
  iapply (workB_all m ρ K c) $$ [HsB HcRAB HatRAB HoB HoY HtSB HtRB Hr HO]
  · isplitr; · iexact HR
    isplitr; · iexact Hlev
    isplitl [HsB]; · iexact HsB
    isplitl [HcRAB]; · iexact HcRAB
    isplitl [HatRAB]; · iexact HatRAB
    isplitl [HoB]; · iexact HoB
    isplitl [HoY]; · iexact HoY
    isplitl [HtSB]; · iexact HtSB
    isplitl [HtRB]; · iexact HtRB
    isplitl [Hr]; · iexact Hr
    iexact HO
  iintro ⟨HsB, HvB, HzRAB, HcSB, Hr, HO⟩
  iapply (workM_all m ρ K c) $$ [HsM HcRAM HatRAM HoM Hr HO]
  · isplitr; · iexact HR
    isplitr; · iexact Hlev
    isplitl [HsM]; · iexact HsM
    isplitl [HcRAM]; · iexact HcRAM
    isplitl [HatRAM]; · iexact HatRAM
    isplitl [HoM]; · iexact HoM
    isplitl [Hr]; · iexact Hr
    iexact HO
  iintro ⟨HsM, HvM, HzRAM, HoM, Hr, HO⟩
  -- the last waits
  iapply (wait_all m ρ K c all5 all5_eq (fun k => .inr (.inr (.inr k))) (fun k => .waitDma2 (recvB k) (nSlice c k) (nSlice c k) (nExact c k) (nExact c k)) (takeB_spec c)) $$ [HcRB HatRB HO]
  · isplitr; · iexact HR
    isplitr; · iexact Hlev
    isplitl [HcRB]; · iexact HcRB
    isplitl [HatRB]; · iexact HatRB
    iexact HO
  iintro ⟨HoN, HzRB, HO⟩
  iapply (wait_all m ρ K c all11 all11_eq (fun k => .inl k) (fun k => .waitDma2 (sendA k) (vSlice k) (sSlice k) (vExact k) (sExact k)) (leftA_spec c)) $$ [HcSA HatSA HO]
  · isplitr; · iexact HR
    isplitr; · iexact Hlev
    isplitl [HcSA]; · iexact HcSA
    isplitl [HatSA]; · iexact HatSA
    iexact HO
  iintro ⟨HsR, HzSA, HO⟩
  iapply (wait_all m ρ K c all5 all5_eq (fun k => .inr (.inr (.inl k))) (fun k => .waitDma2 (sendB k) (oSlice c k) (oSlice c k) (oExact c k) (oExact c k)) (leftB_spec c)) $$ [HcSB HatSB HO]
  · isplitr; · iexact HR
    isplitr; · iexact Hlev
    isplitl [HcSB]; · iexact HcSB
    isplitl [HatSB]; · iexact HatSB
    iexact HO
  iintro ⟨HoB, HzSB, HO⟩
  unfold Wp; rw [wp_ret]; imodintro
  iapply Hk
  unfold bodyPost Φ₁
  rw [cells_eq]
  isplitl [HsB HsM HsR HvB HvM HzBar HzSA HzRAB HzRAM HzSB HzRB]
  · isplitl [HsB HsM HsR]
    · iapply (pointsTo_share (PosShare.mem_left_op_right fullShare)).2
      isplitl [HsB HsM]
      · iapply (Entails.of_eq ((s_blocks c fullShare.left (sbuf m ρ c)).trans (split11 _)).symm)
        isplitl [HsB] <;> iassumption
      · iapply (Entails.of_eq (s_blocks c fullShare.right (sbuf m ρ c)).symm)
        iexact HsR
    isplitl [HvB HvM]
    · iapply (Entails.of_eq ((v_blocks c (vbuf m ρ c)).trans (split11 _)).symm)
      isplitl [HvB] <;> iassumption
    isplitl [HzBar]; · iexact HzBar
    isplitl [HzSA]; · iexact HzSA
    isplitl [HzRAB HzRAM]
    · iapply (Entails.of_eq (split11 fun k => semVal (kcell (c, ra k)) 0).symm)
      isplitl [HzRAB] <;> iassumption
    isplitl [HzSB]; · iexact HzSB
    iexact HzRB
  isplitl [HO]; · iexact HO
  isplitl [Hp]; · iexact Hp
  isplitl [Hr]; · iexact Hr
  iapply (Entails.of_eq (o_blocks c (obuf m ρ c)).symm)
  isplitl [HoB]; · iexact HoB
  isplitl [HoM]; · iexact HoM
  iexact HoN

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost' (c : Dev nD) : sProp 𝕄 :=
  iprop(Φ₁ m ρ c ∗ (dats m ρ 0 c).owesAt () t₀.succ
    ∗ stg c cc0_stg0_0 (pStg m ρ c) ∗ stg c cc0_stg1_0 (rStg m ρ c) ∗ stg c cc0_stg2_0 (gStg m ρ c) ∗ stg c cc0_stg3_0 (obuf m ρ c))

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (F := F) pM (Memref.isWhole_whole _) rM (Memref.isWhole_whole _) gM (Memref.isWhole_whole _) oM (Memref.isWhole_whole _)
      sM (Memref.isWhole_whole _) vM (Memref.isWhole_whole _) cc0_scratch2 cc0_scratch3 cc0_scratch4 cc0_scratch5) (fun _ => bodyPost' m ρ c)
  rw [body_eq, wp_deviceId]
  unfold bodyPre' Φ₀ start Dat.owesAt Pipeline.owesWithin
  iintro ⟨⟨⟨⟨%K, Hg⟩, Hcr, Hlev⟩, Hs, Hv⟩, ⟨%W, %hW, HO⟩, ⟨%d0, %g0, %hg0, Hp⟩, ⟨%d1, %g1, %hg1, Hr⟩, ⟨%d2, %g2, %hg2, Hga⟩, ⟨%d3, %g3, %hg3, Ho⟩⟩
  have h0 : g0 = pStg m ρ c := by rw [hg0]; unfold Dat.before; rw [if_pos (fetch0_0 t₀)]; rfl
  have h1 : g1 = rStg m ρ c := by rw [hg1]; unfold Dat.before; rw [if_pos (fetch0_1 t₀)]; rfl
  have h2 : g2 = gStg m ρ c := by rw [hg2]; unfold Dat.before; rw [if_pos (fetch0_2 t₀)]; rfl
  subst h0 h1 h2
  iapply (loops_wp m ρ K c fun _ => bodyPost' m ρ c)
  unfold bodyPre bodyPost bodyPost' reads owing Dat.owesAt Pipeline.owesWithin
  isplitr []
  · isplitl [Hg Hcr Hlev Hs Hv]
    · isplitl [Hg]; · iexact Hg
      isplitl [Hcr]; · iexact Hcr
      isplitl [Hlev]; · iexact Hlev
      isplitl [Hs] <;> iassumption
    isplitl [HO]; · iexists W; iexact HO
    isplitl [Hp]; · iexact Hp
    isplitl [Hr Hga]
    · isplitl [Hr] <;> iassumption
    iexists g3; iexact Ho
  · iintro ⟨HΦ, ⟨%W', HO⟩, Hp, ⟨Hr, Hga⟩, Ho⟩
    isplitl [HΦ]; · iexact HΦ
    isplitl [HO]
    · iexists W'
      isplitr; · ipureintro; exact fun _ _ => Or.inl trivial
      iexact HO
    isplitl [Hp]
    · iexists _; isplitr; · (ipureintro; rfl)
      iexact Hp
    isplitl [Hr]
    · iexists _; isplitr; · (ipureintro; rfl)
      iexact Hr
    isplitl [Hga]
    · iexists _; isplitr; · (ipureintro; rfl)
      iexact Hga
    iexists _; isplitr; · (ipureintro; rfl)
    iexact Ho

end Body

end Cert.Fused

end
-- ==== Proof.Launch.lean ====
/-
# The launch and the run

What the launch deals the four devices, how it is dealt around the two axes of the mesh, and the run of the
whole program: every device ends with its result at `obuf`, its arguments unchanged and every semaphore at zero.
-/
module

public import proofs.«01_k».proof.Proof.Body
public import proofs.«01_k».proof.Proof.Gen.KernelIdeal.Launch
public import Idealize.ShloMosaic.Lib.Quiescent
public import Idealize.ShloMosaic.Lib.Pipeline.Launch
public import Idealize.ShloMosaic.Lib.Pipeline.Kit
public import Idealize.ShloMosaic.Lib.Pipeline.CollectiveSegs

@[expose] public section

noncomputable section

namespace Cert.Fused

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals -/

theorem ownSemFacts : Pipeline.OwnSemFacts cfg0.spec osem where
  isScoped := by rintro (k | k | k | k) <;> revert k <;> decide
  inj a b h := Sum.inr_injective (Option.some.inj ((kind_csem (.inr a)).symm.trans ((congrArg kind h).trans (kind_csem (.inr b)))))
  disj a w s h := by
    have h' : kind (.dma (((cfg0.spec w).sem s))) = some (.inr a) := (congrArg kind h).symm.trans (kind_csem (.inr a))
    have h0 : kind (.dma (((cfg0.spec w).sem s))) = none := by fin_cases w <;> fin_cases s <;> rfl
    rw [h0] at h'; cases h'

theorem csem_injective : Function.Injective csem := fun a b h =>
  Option.some.inj ((kind_csem a).symm.trans ((congrArg kind h).trans (kind_csem b)))
theorem kcell_injective : Function.Injective kcell := fun a b h =>
  Prod.ext (congrArg (fun g : GSem nD τ sig => g.1.1) h) (csem_injective (congrArg Prod.snd h))

def protoCells : Finset (GSem nD τ sig) := Finset.univ.map ⟨kcell, kcell_injective⟩

/-- The duties of one device's cells: the two of its barrier, the one of each other cell. -/
abbrev Duty : Type := Bool ⊕ Own
def dutyOf : Duty → Cell × Bool
  | .inl b => (bar, b)
  | .inr o => (.inr o, false)
theorem dutyOf_injective : Function.Injective dutyOf := by
  rintro (a | a) (b | b) h
  · exact congrArg Sum.inl (congrArg Prod.snd h)
  · exact absurd (congrArg Prod.fst h) (by intro h; cases h)
  · exact absurd (congrArg Prod.fst h) (by intro h; cases h)
  · exact congrArg Sum.inr (Sum.inr_injective (congrArg Prod.fst h))
def tokOf (ct : Dev nD × Duty) : GSem nD τ sig × ℕ × Bool := (kcell (ct.1, (dutyOf ct.2).1), 0, (dutyOf ct.2).2)
theorem tokOf_injective : Function.Injective tokOf := fun a b h => by
  have hk : ((a.1, (dutyOf a.2).1) : Dev nD × Cell) = (b.1, (dutyOf b.2).1) := kcell_injective (congrArg Prod.fst h)
  exact Prod.ext (congrArg (fun x : Dev nD × Cell => x.1) hk)
    (dutyOf_injective (Prod.ext (congrArg Prod.snd hk) (congrArg (fun x : GSem nD τ sig × ℕ × Bool => x.2.2) h)))
def protoToks : Finset (GSem nD τ sig × ℕ × Bool) := Finset.univ.map ⟨tokOf, tokOf_injective⟩

def u₀ : UU :=
  (initOf (Pipeline.cells cfgs cellOf_inj) (Pipeline.launchToks cfgs cellOf_inj), initOf protoCells protoToks)

/-- The tokens of the duties of device `c`'s own cells. -/
def toks (c : Dev nD) : sProp 𝕄 :=
  iprop(dutyTok ER (kcell (c, bar)) 0 false ∗ dutyTok ER (kcell (c, bar)) 0 true
    ∗ (bigSep Finset.univ fun k => dutyTok ER (kcell (c, sa k)) 0 false) ∗ (bigSep Finset.univ fun k => dutyTok ER (kcell (c, ra k)) 0 false)
    ∗ (bigSep Finset.univ fun k => dutyTok ER (kcell (c, sb k)) 0 false) ∗ (bigSep Finset.univ fun k => dutyTok ER (kcell (c, rb k)) 0 false))
/-- The tokens of the duties device `c` pays. -/
def payToks (c : Dev nD) : sProp 𝕄 :=
  iprop(dutyTok ER (kcell (xn c, bar)) 0 false ∗ dutyTok ER (kcell (yn c, bar)) 0 true
    ∗ (bigSep Finset.univ fun k => dutyTok ER (kcell (c, sa k)) 0 false) ∗ (bigSep Finset.univ fun k => dutyTok ER (kcell (xn c, ra k)) 0 false)
    ∗ (bigSep Finset.univ fun k => dutyTok ER (kcell (c, sb k)) 0 false) ∗ (bigSep Finset.univ fun k => dutyTok ER (kcell (yn c, rb k)) 0 false))

/-- A device's tokens, one by one. -/
theorem toks_eq (c : Dev nD) : (bigSep Finset.univ fun t : Duty => (dutyTok ER (tokOf (c, t)).1 (tokOf (c, t)).2.1 (tokOf (c, t)).2.2 : sProp 𝕄)) = toks c := by
  have hB (Φ : Bool → sProp 𝕄) : bigSep Finset.univ Φ = iprop(Φ false ∗ Φ true) := bigSep_univ_eq_bigSepL [false, true] (by decide) (by decide) Φ
  have hA (P Q R : sProp 𝕄) : iprop((P ∗ Q) ∗ R) = iprop(P ∗ Q ∗ R) := Idealize.SL.BI.sep_assoc.antisymm Idealize.SL.BI.sep_assoc'
  rw [bigSep_univ_sum, bigSep_univ_sum, bigSep_univ_sum, bigSep_univ_sum, hB]
  exact hA _ _ _

/-- What the launch element gives device `c`, and what the devices together make of it. -/
def G (c : Dev nD) : sProp 𝕄 :=
  iprop((bigSep Finset.univ fun q : Cell => roundState ER (Rd m ρ) (kcell (c, q)) 0)
    ∗ (bigSep Finset.univ fun q : Cell => iprop(atPos ER (kcell (c, q)) 0 ∅ 0 ∗ reached ER (kcell (c, q)) 0)) ∗ toks c)
def G' (c : Dev nD) : sProp 𝕄 := iprop(∃ K, ghost m ρ K c)

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun q : Cell => Φ (kcell (c, q)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (Rd m ρ) protoCells protoToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, bar)) 0 := by
  unfold unscopedSems0; rw [bigSep_eq_bigSepL_of_eq [SemLoc.reg barS] (by decide) (by decide)]; rfl

/-- The kernel's own semaphores and the barrier are the cells of the protocol. -/
theorem sems0_eq (c : Dev nD) :
    (bigSep Finset.univ fun q : Cell => (semVal (kcell (c, q)) 0 : sProp 𝕄))
      = iprop(unscopedSems0 c ∗ Pipeline.ownSems0 (Ix := Unit) (Name := ℕ) (U := UU) (Lvl := ℕ) (Val := Elt F) (τ := τ) osem c) := by
  rw [bigSep_univ_sum, unscopedSems0_eq, Finset.univ_unique, bigSep_singleton]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun q => iprop(∃ κ : ℕ, cellInv ER (Rd m ρ) κ (kcell (c, q))))
          ∗ (bigSep Finset.univ fun q => iprop(atPos ER (kcell (c, q)) 0 ∅ 0 ∗ reached ER (kcell (c, q)) 0)) ∗ toks c) := by
  unfold G
  iintro ⟨Hos, Hus, Hst, Hat, Htok⟩
  imod (show iprop((bigSep Finset.univ fun q : Cell => semVal (kcell (c, q)) 0) ∗ bigSep Finset.univ fun q : Cell => roundState ER (Rd m ρ) (kcell (c, q)) 0)
      ⊢ (|={Set.univ}=> bigSep Finset.univ fun q => iprop(∃ κ : ℕ, cellInv ER (Rd m ρ) κ (kcell (c, q))) : sProp 𝕄) from by
        rw [← bigSep_sep']
        exact (bigSep_mono fun q _ => (Rounds.body_intro ER (Rd m ρ) (kcell (c, q))).trans inv_alloc).trans (bigSep_fupd _ _)) $$ [Hos Hus Hst] with Hinv
  · isplitl [Hos Hus]
    · rw [sems0_eq]
      isplitl [Hus] <;> iassumption
    iexact Hst
  imodintro
  isplitl [Hinv]; · iexact Hinv
  isplitl [Hat]; · iexact Hat
  iexact Htok

def alongX : Dev nD ≃ Dev nD := ⟨xn, xn, xn_xn, xn_xn⟩
def alongY : Dev nD ≃ Dev nD := ⟨yn, yn, yn_yn, yn_yn⟩

/-- Each token goes to the device that pays the duty. -/
theorem toks_around : (bigSep Finset.univ fun c : Dev nD => (toks c : sProp 𝕄)) = bigSep Finset.univ fun c : Dev nD => payToks c := by
  unfold toks payToks
  simp only [bigSep_sep']
  rw [bigSep_univ_equiv alongX (fun c : Dev nD => (dutyTok ER (kcell (c, bar)) 0 false : sProp 𝕄)),
    bigSep_univ_equiv alongY (fun c : Dev nD => (dutyTok ER (kcell (c, bar)) 0 true : sProp 𝕄)),
    bigSep_univ_equiv alongX (fun c : Dev nD => (bigSep Finset.univ fun k => dutyTok ER (kcell (c, ra k)) 0 false : sProp 𝕄)),
    bigSep_univ_equiv alongY (fun c : Dev nD => (bigSep Finset.univ fun k => dutyTok ER (kcell (c, rb k)) 0 false : sProp 𝕄))]
  rfl

theorem ghost_intro (K : Dev nD × Cell → ℕ) (c : Dev nD) :
    iprop(records m ρ K ∗ (bigSep Finset.univ fun q : Cell => atPos ER (kcell (c, q)) 0 ∅ 0) ∗ payToks c) ⊢ G' m ρ c := by
  unfold payToks G' ghost
  iintro ⟨HR, Hat, Htok⟩
  iexists K
  isplitl [HR]; · iexact HR
  isplitl [Hat]; · iexact Hat
  iexact Htok

theorem regroup :
    (bigSep Finset.univ fun c : Dev nD => iprop((bigSep Finset.univ fun q => iprop(∃ κ : ℕ, cellInv ER (Rd m ρ) κ (kcell (c, q))))
          ∗ (bigSep Finset.univ fun q => iprop(atPos ER (kcell (c, q)) 0 ∅ 0 ∗ reached ER (kcell (c, q)) 0)) ∗ toks c) : sProp 𝕄)
      ⊢ bigSep Finset.univ (G' m ρ) := by
  rw [bigSep_sep', bigSep_sep', ← bigSep_univ_prod (fun cq : Dev nD × Cell => iprop(∃ κ : ℕ, cellInv ER (Rd m ρ) κ (kcell cq))),
    bigSep_congr (s := Finset.univ) (fun (c : Dev nD) _ => bigSep_sep' Finset.univ (fun q : Cell => (atPos ER (kcell (c, q)) 0 ∅ 0 : sProp 𝕄)) (fun q => reached ER (kcell (c, q)) 0)),
    bigSep_sep', ← bigSep_univ_prod (fun cq : Dev nD × Cell => (reached ER (kcell cq) 0 : sProp 𝕄)), toks_around]
  iintro ⟨HI, ⟨Hat, HR⟩, Htok⟩
  ihave HK := (BI.bigSep_exists_pi Finset.univ (fun (cq : Dev nD × Cell) (κ : ℕ) => (cellInv ER (Rd m ρ) κ (kcell cq) : sProp 𝕄))) $$ HI
  icases HK with ⟨%K, HI⟩
  iapply (bigSep_with_persistent (R := records m ρ K) fun c _ => ghost_intro m ρ K c)
  isplitl [HI HR]
  · unfold records
    isplitl [HI] <;> iassumption
  · rw [bigSep_sep']
    isplitl [Hat] <;> iassumption

/-- Every device's semaphores and launch share become every device's part of the protocol. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What one tally puts at a cell. -/
theorem tally_at (e c : Dev nD) (q' q : Cell) (n : ℕ) :
    (tallyAt (kcell (e, q')) () n : CellTallies nD τ sig Unit) (kcell (c, q)) () = if e = c then (if q' = q then n else 0) else 0 := by
  rw [tallyAt_apply]
  by_cases h : e = c
  · subst h
    by_cases hq : q' = q
    · subst hq; rw [if_pos ⟨rfl, rfl⟩, if_pos rfl, if_pos rfl]
    · rw [if_neg fun ⟨h1, _⟩ => hq (congrArg Prod.snd (kcell_injective h1)).symm, if_pos rfl, if_neg hq]
  · rw [if_neg fun ⟨h1, _⟩ => h (congrArg Prod.fst (kcell_injective h1)).symm, if_neg h]

/-- How often a cell is in a list of cells. -/
def times (q : Cell) (l : List Cell) : ℕ := l.countP (· = q)

theorem owesB_at (d c : Dev nD) (q : Cell) (l : List (Fin 5)) :
    owesB d l (kcell (c, q)) () = if yn d = c then times q (l.map rb) * N else 0 := by
  induction l with
  | nil => show 0 = _; unfold times; split <;> simp
  | cons k l ih =>
    show owesB d l (kcell (c, q)) () + (tallyAt (kcell (yn d, rb k)) () N : CellTallies nD τ sig Unit) (kcell (c, q)) () = _
    rw [ih, tally_at]
    unfold times
    rw [List.map_cons, List.countP_cons]
    by_cases h : yn d = c
    · rw [if_pos h, if_pos h, if_pos h, Nat.add_mul]
      by_cases hq : rb k = q
      · rw [if_pos hq, if_pos (by simpa using hq), Nat.one_mul]
      · rw [if_neg hq, if_neg (by simpa using hq), Nat.zero_mul]
    · rw [if_neg h, if_neg h, if_neg h]
theorem owesA_at (d c : Dev nD) (q : Cell) (l : List (Fin 11)) :
    owesA d l (kcell (c, q)) () = (if xn d = c then times q (l.map ra) * N else 0) + if yn d = c then times q (all5.map rb) * N else 0 := by
  induction l with
  | nil =>
    show owesB d all5 (kcell (c, q)) () = _
    rw [owesB_at, show times q (([] : List (Fin 11)).map ra) = 0 from rfl, Nat.zero_mul, ite_self, Nat.zero_add]
  | cons k l ih =>
    show owesA d l (kcell (c, q)) () + (tallyAt (kcell (xn d, ra k)) () N : CellTallies nD τ sig Unit) (kcell (c, q)) () = _
    rw [ih, tally_at, Nat.add_right_comm]
    congr 1
    unfold times
    rw [List.map_cons, List.countP_cons]
    by_cases h : xn d = c
    · rw [if_pos h, if_pos h, if_pos h, Nat.add_mul]
      by_cases hq : ra k = q
      · rw [if_pos hq, if_pos (by simpa using hq), Nat.one_mul]
      · rw [if_neg hq, if_neg (by simpa using hq), Nat.zero_mul]
    · rw [if_neg h, if_neg h, if_neg h]

/-- What the devices together owe a cell: its neighbours' units at a barrier, one block at a receive semaphore. -/
def due (q : Cell) : ℕ := times q (all11.map ra) * N + times q (all5.map rb) * N + (if bar = q then 1 else 0) + if bar = q then 1 else 0

theorem sum_xn (c : Dev nD) (n : ℕ) : (∑ d : Dev nD, if xn d = c then n else 0) = n := by
  rw [Finset.sum_congr rfl fun d _ => if_congr (show xn d = c ↔ d = xn c from ⟨fun h => by rw [← h, xn_xn], fun h => by rw [h, xn_xn]⟩) rfl rfl,
    Finset.sum_ite_eq', if_pos (Finset.mem_univ _)]
theorem sum_yn (c : Dev nD) (n : ℕ) : (∑ d : Dev nD, if yn d = c then n else 0) = n := by
  rw [Finset.sum_congr rfl fun d _ => if_congr (show yn d = c ↔ d = yn c from ⟨fun h => by rw [← h, yn_yn], fun h => by rw [h, yn_yn]⟩) rfl rfl,
    Finset.sum_ite_eq', if_pos (Finset.mem_univ _)]

theorem sum_owed (c : Dev nD) (q : Cell) : (∑ d : Dev nD, O₀ d (kcell (c, q)) ()) = due q := by
  rw [Finset.sum_congr rfl fun d _ => show O₀ d (kcell (c, q)) () = _ from by
    unfold O₀ O₁
    rw [Pi.add_apply, Finsupp.add_apply, Pi.add_apply, Finsupp.add_apply, owesA_at, tally_at, tally_at]]
  rw [Finset.sum_add_distrib, Finset.sum_add_distrib, Finset.sum_add_distrib, sum_xn, sum_yn, sum_yn, sum_xn]; rfl

theorem due_bar : due bar = 2 := by
  unfold due
  rw [show times bar (all11.map ra) = 0 from by decide, show times bar (all5.map rb) = 0 from by decide, if_pos rfl, Nat.zero_mul]
theorem due_ra (k : Fin 11) : due (ra k) = N := by
  unfold due
  rw [show times (ra k) (all11.map ra) = 1 from by revert k; decide, show times (ra k) (all5.map rb) = 0 from by revert k; decide,
    if_neg (fun h => by cases h), Nat.zero_mul, Nat.one_mul]; rfl
theorem due_rb (k : Fin 5) : due (rb k) = N := by
  unfold due
  rw [show times (rb k) (all11.map ra) = 0 from by revert k; decide, show times (rb k) (all5.map rb) = 1 from by revert k; decide,
    if_neg (fun h => by cases h), Nat.zero_mul, Nat.one_mul, Nat.zero_add]; rfl

theorem launch_at (c : Dev nD) (q : Cell) :
    tallyOn (kcell (c, q)) (launchCredit (Pipeline.owing O₀) 0 (kcell (c, q))) = (tallyAt (kcell (c, q)) () (due q) : CellTallies nD τ sig Unit) := by
  unfold tallyAt; refine congrArg _ (Finsupp.ext fun u => ?_); cases u
  rw [Pipeline.launchCredit_owing, Finsupp.single_eq_same, sum_owed]

theorem creds (c : Dev nD) : (Pipeline.launchCred O₀ c : sProp 𝕄) ⊢ credits c := by
  have h : (Pipeline.launchCred O₀ c : sProp 𝕄) ⊢ bigSep Finset.univ fun q : Cell => cred (tallyAt (kcell (c, q)) () (due q)) := by
    unfold Pipeline.launchCred
    refine (bigSep_subset (Finset.subset_univ (Finset.univ.map ⟨csem, csem_injective⟩))).trans ?_
    rw [bigSep_map]
    exact bigSep_mono fun q _ => Entails.of_eq (congrArg cred (launch_at c q))
  refine h.trans ?_
  rw [cells_eq]
  unfold credits
  simp only [due_bar, due_ra, due_rb]
  iintro ⟨Hb, -, Ha, -, HB⟩
  isplitl [Hb]; · iexact Hb
  isplitl [Ha] <;> iassumption

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨Hs, Hv, HB, HO⟩
  isplitl [HB]; · iexact HB
  isplitl [HO]; · iexact HO
  isplitl [Hs]
  · iexists (sbuf m ρ c); iexact Hs
  · iexists (vbuf m ρ c); iexact Hv

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by fin_cases w <;> fin_cases s <;> exact Nat.le_refl 0) (by
      rcases t with ⟨_ | _, ht⟩
      · exact above_O₀ c (by decide)
      · exact above_zero 0)

theorem share_eq (c : Dev nD) (w : Fin cfg0.W) : (dats m ρ 0 c).share w = fullShare := by unfold Dat.share; split <;> rfl

/-! ## The run -/

/-- What each argument and the result hold at the end. -/
def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- Over any float values, from any memory with every semaphore at zero, every fair execution of the program on the
    four devices ends, with the arguments and the result at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Fused

end
-- ==== Proof.Value.lean ====
/-
# The value

Over the extended reals what every device computes in a row is the reference's row: the sum of the two parts and
the residual, over the root of its mean square, times the scale. The kernel multiplies by the reciprocal root and
the reference divides by the root; the two agree since the mean square plus the constant is above zero.
-/
module

public import proofs.«01_k».proof.Proof.Launch
public import proofs.«01_k».proof.Proof.Gen.ReferenceIdeal.Run
public import Idealize.ShloMosaic.Lib.Pointwise.Tactic
public import Idealize.ShloMosaic.Lib.Pointwise.Reduce
public import Idealize.ShloMosaic.Lib.Pointwise.Reshape
public import Idealize.ShloMosaic.Lib.Layout
public import Idealize.ShloMosaic.Lib.Pipeline.ValueKit.Geometry

@[expose] public section

noncomputable section

namespace Cert.Fused

open Idealize.SL.Sem
open Idealize.ShloMosaic Idealize.ShloMosaic.TcCoe

/-! ## The two ways to divide by a root -/

/-- The mean square of a row of 512, plus the constant. -/
def meanSq (t : Fin 512 → EReal) : EReal :=
  Ideal.div (∑ k, t k * t k) (Ideal.ofBits .f32 0x44000000#32) + Ideal.ofBits .f32 0x358637BD#32

/-- Multiplying by the reciprocal root of a positive number is dividing by its root. -/
theorem mul_rsqrt_eq_div_sqrt {z : EReal} (hz : 0 < z) (t : EReal) : t * Ideal.rsqrt z = Ideal.div t (Ideal.sqrt z) := by
  induction z using EReal.rec with
  | bot => exact absurd hz (by simp)
  | top =>
    show t * 0 = Ideal.div t ⊤
    unfold Ideal.div; rw [if_neg EReal.top_ne_zero, EReal.inv_top]
  | coe r =>
    have hr : 0 < r := by exact_mod_cast hz
    have hs : 0 < Real.sqrt r := Real.sqrt_pos.mpr hr
    show t * (if r < 0 then (⊥ : EReal) else if r = 0 then (⊤ : EReal) else (((Real.sqrt r)⁻¹ : ℝ) : EReal))
      = Ideal.div t (if r < 0 then (⊥ : EReal) else (Real.sqrt r : EReal))
    rw [if_neg hr.not_gt, if_neg hr.ne', if_neg hr.not_gt]
    unfold Ideal.div
    rw [if_neg (by exact_mod_cast hs.ne'), EReal.coe_inv]

theorem count_eq : Ideal.ofBits .f32 0x44000000#32 = ((512 : ℝ) : EReal) := by
  simp [Ideal.ofBits, Ideal.ieee, -EReal.coe_mul]; norm_num
theorem const_pos : 0 < Ideal.ofBits .f32 0x358637BD#32 := by
  simp [Ideal.ofBits, Ideal.ieee, -EReal.coe_mul]
theorem square_nonneg (x : EReal) : 0 ≤ x * x := by
  induction x using EReal.rec with
  | bot => simp
  | top => simp
  | coe r => rw [← EReal.coe_mul]; exact_mod_cast mul_self_nonneg r

/-- A mean square plus the constant is above zero, whatever the row. -/
theorem meanSq_pos (t : Fin 512 → EReal) : 0 < meanSq t := by
  have h0 : 0 ≤ ∑ k, t k * t k := Finset.sum_nonneg fun k _ => square_nonneg (t k)
  have h1 : 0 ≤ Ideal.div (∑ k, t k * t k) (Ideal.ofBits .f32 0x44000000#32) := by
    rw [count_eq]
    unfold Ideal.div
    rw [if_neg (by exact_mod_cast (by norm_num : (512 : ℝ) ≠ 0)), ← EReal.coe_inv]
    exact EReal.mul_nonneg h0 (by exact_mod_cast (by norm_num : (0 : ℝ) ≤ 512⁻¹))
  exact lt_of_lt_of_le const_pos (le_add_of_nonneg_left h1)

/-- One element of a normalized row. -/
def normed (t : Fin 512 → EReal) (g : EReal) (j : Fin 512) : EReal := Ideal.div (t j) (Ideal.sqrt (meanSq t)) * g

/-! ## The reference at an element -/

section Reference
open Cert.ReferenceIdeal Cert.ReferenceIdeal.Gen

/-- The sum of the two parts and the residual, -/
def refTotal (p : FVec Ideal S2x512x512 .bf16) (r : FVec Ideal S512x512 .bf16) : FVec Ideal S512x512 .f32 :=
  addf (Host.reduceAdd (extf .f32 p bitsLt_bf16_f32) (constant S_ .f32 0x00000000#32) reducesTo_S2x512x512_S512x512_d0 h_S_) (extf .f32 r bitsLt_bf16_f32)
/-- the root of each row's mean square, -/
def refRms (t : FVec Ideal S512x512 .f32) : FVec Ideal S512x1 .f32 :=
  Host.sqrt (addf (Host.divf (broadcastInDim S512x1 ![0] bcast_S512_S512x1_0 (Host.reduceAdd (mulf t t) (constant S_ .f32 0x00000000#32) reducesTo_S512x512_S512_d1 h_S_))
    (broadcastInDim S512x1 ![] bcast_S_S512x1 (constant S_ .f32 0x44000000#32))) (broadcastInDim S512x1 ![] bcast_S_S512x1 (constant S_ .f32 0x358637BD#32)))
/-- and the reference's result. -/
def refOut (p : FVec Ideal S2x512x512 .bf16) (r : FVec Ideal S512x512 .bf16) (g : FVec Ideal S512 .bf16) : FVec Ideal S512x512 .bf16 :=
  truncf .bf16 (mulf (Host.divf (refTotal p r) (broadcastInDim S512x512 ![0, 1] bcast_S512x1_S512x512_0_1 (refRms (refTotal p r))))
    (broadcastInDim S512x512 ![0, 1] bcast_S1x512_S512x512_0_1 (broadcastInDim S1x512 ![1] bcast_S512_S1x512_1 (extf .f32 g bitsLt_bf16_f32)))) bitsLt_bf16_f32

theorem refTotal_at (p : FVec Ideal S2x512x512 .bf16) (r : FVec Ideal S512x512 .bf16) (i j : Fin 512) :
    refTotal p r (ix2 i j) = (∑ x : Fin 2, (p (ix3 x i j) : EReal)) + r (ix2 i j) := by
  unfold refTotal; pointwise
theorem refRms_at (t : FVec Ideal S512x512 .f32) (i : Fin 512) : refRms t (ix2 i (0 : Fin 1)) = Ideal.sqrt (meanSq fun k => t (ix2 i k)) := by
  unfold refRms meanSq; pointwise
theorem refOut_at (p : FVec Ideal S2x512x512 .bf16) (r : FVec Ideal S512x512 .bf16) (g : FVec Ideal S512 .bf16) (i j : Fin 512) :
    refOut p r g (ix2 i j) = normed (fun k => (∑ x : Fin 2, (p (ix3 x i k) : EReal)) + r (ix2 i k)) (g (ix1 j)) j := by
  have h : refOut p r g (ix2 i j) = Ideal.div (refTotal p r (ix2 i j)) (refRms (refTotal p r) (ix2 i (0 : Fin 1))) * g (ix1 j) := by
    unfold refOut; pointwise
  rw [h, refRms_at]
  simp only [refTotal_at]
  rfl

/-- Every run of the reference ends with its result at `refOut` of the arguments, the arguments unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run m ρ

end Reference

/-! ## The kernel at an element -/

section Kernel
open Cert.KernelIdeal Cert.KernelIdeal.Gen

/-- An element of a computed block. -/
theorem blockVal_at (s v r : Vec Ideal S32x512 .bf16) (g : Vec Ideal S512 .bf16) (i : Fin 32) (j : Fin 512) :
    blockVal s v r g (ix2 i j) = normed (fun k => (s (ix2 i k) : EReal) + v (ix2 i k) + r (ix2 i k)) (g (ix1 j)) j := by
  unfold normed
  rw [← mul_rsqrt_eq_div_sqrt (meanSq_pos _)]
  unfold blockVal k0_pay13 k0_pay12 meanSq
  dsimp only
  pointwise

section Float
variable {F : FTy → Type} [FloatOps F] (m : (ℓ : Loc nD τ sig) → Buf (Elt F) ℓ) (ρ : Dev nD → PrngReg)

/-- A window over a whole array starts at zero. -/
theorem whole_at (n k : ℕ) : 0 * n + 1 * k = k := by omega

/-- A staged argument is the argument. -/
theorem pStg_eq (c : Dev nD) : pStg m ρ c = m ((c : Thread nD τ).loc main_arg0) :=
  funext fun i => congrArg (m ((c : Thread nD τ).loc main_arg0)) (funext fun a => Fin.ext (whole_at _ _))
theorem rStg_eq (c : Dev nD) : rStg m ρ c = m ((c : Thread nD τ).loc main_arg1) :=
  funext fun i => congrArg (m ((c : Thread nD τ).loc main_arg1)) (funext fun a => Fin.ext (whole_at _ _))
theorem gStg_eq (c : Dev nD) : gStg m ρ c = m ((c : Thread nD τ).loc main_arg2) :=
  funext fun i => congrArg (m ((c : Thread nD τ).loc main_arg2)) (funext fun a => Fin.ext (whole_at _ _))

/-- The arguments end as they were, -/
theorem final_arg0 (c : Dev nD) : finalA m ρ c (0 : Fin 4) = m ((c : Thread nD τ).loc main_arg0) := (dats m ρ 0 c).arrAt_in (0 : Fin 4) rfl _
theorem final_arg1 (c : Dev nD) : finalA m ρ c (1 : Fin 4) = m ((c : Thread nD τ).loc main_arg1) := (dats m ρ 0 c).arrAt_in (1 : Fin 4) rfl _
theorem final_arg2 (c : Dev nD) : finalA m ρ c (2 : Fin 4) = m ((c : Thread nD τ).loc main_arg2) := (dats m ρ 0 c).arrAt_in (2 : Fin 4) rfl _
/-- and the result ends at what the kernel left in its buffer. -/
theorem final_out (c : Dev nD) : finalA m ρ c (3 : Fin 4) = obuf m ρ c := by
  refine (dats m ρ 0 c).arrAt_eq_of_covers (3 : Fin 4) (obuf m ρ c) (by decide +kernel) fun t hf y => ?_
  have e : ((cfg0.win (3 : Fin 4)).blk t).view.emb y = y := funext fun a => Fin.ext (whole_at _ _)
  rw [e]; rfl

/-- An element of a sent block is one of the part. -/
theorem sendBlk_at (c : Dev nD) (k : Fin 11) (a : Fin 32) (b i : Fin 512) (h : srcRow c (32 * k.val + a.val) = i.val) :
    sendBlk m ρ c k (ix2 a b) = pStg m ρ c (ix3 (0 : Fin 1) i b) := by
  have h' : srcRow c (32 * k.val + 1 * a.val) = i.val := by rw [Nat.one_mul]; exact h
  show pStg m ρ c _ = pStg m ρ c _
  refine congrArg _ (funext fun x => Fin.ext ?_)
  match x with
  | 0 => rfl
  | 1 => exact h'
  | 2 => show 0 + 1 * b.val = b.val; omega

/-- An element of a residual block is one of the residual. -/
theorem resBlk_at (c : Dev nD) (k : Fin 11) (a : Fin 32) (b i : Fin 512) (h : srcRow c (32 * k.val + a.val) = i.val) :
    resBlk m ρ c k (ix2 a b) = rStg m ρ c (ix2 i b) := by
  show rStg m ρ c _ = rStg m ρ c _
  refine congrArg _ (funext fun x => Fin.ext ?_)
  match x with
  | 0 => exact h
  | 1 => rfl

/-- The row a device computes for row `i` of the result is row `i`. -/
theorem srcRow_owner (c : Dev nD) (i : ℕ) (hi : i < 512) : srcRow (owner c i) (32 * (i % 352 / 32) + i % 32) = i := by
  have hy : (yn c).val % 2 = 1 - c.val % 2 := by clear hi; revert c; decide
  unfold srcRow owner
  split_ifs <;> omega

/-- Neighbours along `x` work on the same rows. -/
theorem srcRow_xn (c : Dev nD) (i : ℕ) : srcRow (xn c) i = srcRow c i := by
  have hx : (xn c).val % 2 = c.val % 2 := by revert c; decide
  unfold srcRow; rw [hx]

end Float

variable (m : (ℓ : Loc nD τ sig) → Buf (Elt Ideal) ℓ) (ρ : Dev nD → PrngReg)

/-- The block of the whole array of parts that a device holds, at an element. -/
theorem part_at (p : (⟨3, ![2, 512, 512]⟩ : Shape).Idx → EReal) (c : Dev nD) (x : Fin 2) (hx : c.val / 2 = x.val) (i j : Fin 512) :
    (Layout.blockN ⟨3, ![1, 512, 512]⟩ ⟨3, ![2, 512, 512]⟩ (Layout.meshBlock [2, 2] ![[0], [], []] c) p) (ix3 (0 : Fin 1) i j) = p (ix3 x i j) := by
  rw [Layout.blockN_apply]
  have h0 : Layout.meshLin [2, 2] c.val [0] = x.val := by rw [← hx]; clear hx; revert c; decide
  refine congrArg p (funext fun a => Fin.ext ?_)
  rw [Layout.TilesN.idx_val]
  match a with
  | 0 => show Layout.meshLin [2, 2] c.val [0] * 1 + 0 = x.val; rw [h0]; omega
  | 1 => show 0 * 512 + i.val = i.val; omega
  | 2 => show 0 * 512 + j.val = j.val; omega

/-- A device's part and its neighbour's are the two parts. -/
theorem parts_sum (p : (⟨3, ![2, 512, 512]⟩ : Shape).Idx → EReal)
    (h : ∀ c : Dev nD, pStg m ρ c = Layout.blockN ⟨3, ![1, 512, 512]⟩ ⟨3, ![2, 512, 512]⟩ (Layout.meshBlock [2, 2] ![[0], [], []] c) p)
    (c : Dev nD) (i j : Fin 512) :
    (show EReal from pStg m ρ c (ix3 (0 : Fin 1) i j)) + (show EReal from pStg m ρ (xn c) (ix3 (0 : Fin 1) i j)) = ∑ x : Fin 2, p (ix3 x i j) := by
  rw [h c, h (xn c), Fin.sum_univ_two]
  have hc : (c.val / 2 = 0 ∧ (xn c).val / 2 = 1) ∨ (c.val / 2 = 1 ∧ (xn c).val / 2 = 0) := by clear h; revert c; decide
  rcases hc with ⟨a, b⟩ | ⟨a, b⟩
  · rw [part_at p c 0 a, part_at p (xn c) 1 b]
  · rw [part_at p c 1 a, part_at p (xn c) 0 b]; exact add_comm _ _

/-- Every device's result is the reference's. -/
theorem obuf_eq (p : (⟨3, ![2, 512, 512]⟩ : Shape).Idx → EReal) (r : (⟨2, ![512, 512]⟩ : Shape).Idx → EReal) (g : (⟨1, ![512]⟩ : Shape).Idx → EReal)
    (hp : ∀ c : Dev nD, m ((c : Thread nD τ).loc main_arg0) = Layout.blockN ⟨3, ![1, 512, 512]⟩ ⟨3, ![2, 512, 512]⟩ (Layout.meshBlock [2, 2] ![[0], [], []] c) p)
    (hr : ∀ c : Dev nD, m ((c : Thread nD τ).loc main_arg1) = r) (hg : ∀ c : Dev nD, m ((c : Thread nD τ).loc main_arg2) = g) (c : Dev nD) :
    obuf m ρ c = refOut p r g := by
  funext y
  obtain ⟨i, j, rfl⟩ : ∃ (i j : Fin 512), y = ix2 i j := ⟨y 0, y 1, eq_ix2 y⟩
  rw [refOut_at]
  have hP : ∀ d : Dev nD, pStg m ρ d = Layout.blockN ⟨3, ![1, 512, 512]⟩ ⟨3, ![2, 512, 512]⟩ (Layout.meshBlock [2, 2] ![[0], [], []] d) p :=
    fun d => (pStg_eq m ρ d).trans (hp d)
  have hs := srcRow_owner c i.val i.isLt
  have e : obuf m ρ c (ix2 i j) = outBlk m ρ (owner c i.val) (blkOf i.val i.isLt) (ix2 (⟨i.val % 32, Nat.mod_lt _ (by decide)⟩ : Fin 32) j) := rfl
  rw [e]
  generalize owner c i.val = d at hs ⊢
  unfold outBlk
  rw [blockVal_at, gStg_eq, hg]
  refine congrArg (fun t => normed t (g (ix1 j)) j) (funext fun k => ?_)
  rw [sendBlk_at m ρ d _ _ k i hs, sendBlk_at m ρ (xn d) _ _ k i ((srcRow_xn d _).trans hs), resBlk_at m ρ d _ _ k i hs, rStg_eq, hr, parts_sum m ρ p hP]

end Kernel

end Cert.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section
open Cert.KernelIdeal Cert.KernelIdeal.Gen Cert.Fused
variable {F : FTy → Type} [FloatOps F] (m : (ℓ : Loc nD τ sig) → Buf (Elt F) ℓ) (ρ : Dev nD → PrngReg)

/-- Every run ends with the arguments unchanged, every result at what the kernel left, and every semaphore at zero. -/
theorem run_kernel : θ_run (defs (F := F)) (onTc (τ := τ) (main (F := F))) ⟨m, fun _ => 0, ρ⟩ fun r =>
    (∀ c : Dev nD, r.2.mem ((c.tc : Thread nD τ).loc main_v1) = obuf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run (defs (F := F)) _ _).mono
    (fun r h => ⟨fun c => ⟨(h.1 c (3 : Fin 4)).trans (final_out m ρ c), (h.1 c (0 : Fin 4)).trans (final_arg0 m ρ c),
      (h.1 c (1 : Fin 4)).trans (final_arg1 m ρ c), (h.1 c (2 : Fin 4)).trans (final_arg2 m ρ c)⟩, h.2⟩)
    (run_main m ρ)

end

section
attribute [local instance] Cert.Kernel.Gen.facts Cert.KernelIdeal.Gen.facts

/-- The kernel and its idealization have one text: the same body, -/
theorem same_body : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- and the same pipeline around it. -/
theorem same_defs : Cert.Kernel.defs (F := Bits) = Cert.KernelIdeal.defs (F := Bits) :=
  congrArg (Pipeline.defs (Cert.KernelIdeal.pcfgs (F := Bits))) same_body

end

/-- Every run of the kernel ends, its arguments unchanged and its semaphores at zero. -/
theorem kernel_frame : @Cert.quiescent_Kernel Cert.Kernel.Gen.facts := fun m g _ => by
  rw [same_defs]
  exact (θ_run (Cert.KernelIdeal.defs (F := Bits)) _ _).mono (fun r h => ⟨fun c => (h.1 c).2, h.2⟩) (run_kernel (F := Bits) m g)

/-- The same of its idealization, -/
theorem ideal_frame : @Cert.quiescent_KernelIdeal Cert.KernelIdeal.Gen.facts := fun m g _ =>
  (θ_run (Cert.KernelIdeal.defs (F := Ideal)) _ _).mono (fun r h => ⟨fun c => (h.1 c).2, h.2⟩) (run_kernel (F := Ideal) m g)

/-- and of the reference. -/
theorem reference_frame : @Cert.quiescent_ReferenceIdeal Cert.ReferenceIdeal.Gen.facts := fun m g _ =>
  (θ_run (Cert.ReferenceIdeal.defs (F := Ideal)) _ _).mono
    (fun r h => ⟨fun c => (h c).2, sem_eq_zero_of_no_sems (by decide) r.2⟩) (Cert.Fused.run_reference m g)

/-- Over the extended reals every device's result is the reference's. -/
theorem values : @Cert.algebraic_KernelIdeal_ReferenceIdeal Cert.KernelIdeal.Gen.facts Cert.ReferenceIdeal.Gen.facts := fun m g m' g' _ h => by
  refine ⟨_, (θ_run (Cert.KernelIdeal.defs (F := Ideal)) _ _).mono (fun r q c => ⟨(q.1 c).1.trans ?_, (q.1 c).2⟩) (run_kernel (F := Ideal) m g),
    (θ_run (Cert.ReferenceIdeal.defs (F := Ideal)) _ _).mono (fun r q => q 0) (Cert.Fused.run_reference m' g')⟩
  exact Cert.Fused.obuf_eq m g _ _ _ (fun c => (h c).1) (fun c => (h c).2.1) (fun c => (h c).2.2) c

/-- The five claims. -/
theorem claim : Cert.Claim := ⟨Cert.Kernel.Gen.facts, Cert.KernelIdeal.Gen.facts, Cert.ReferenceIdeal.Gen.facts,
  kernel_frame, ideal_frame, reference_frame, trivial, values⟩

end Cert.Proof

end
